-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S1024x256 : Shape := ⟨2, ![1024, 256]⟩
abbrev S3x256x256 : Shape := ⟨3, ![3, 256, 256]⟩
abbrev S2 : Shape := ⟨1, ![2]⟩
abbrev S3 : Shape := ⟨1, ![3]⟩
abbrev S4 : Shape := ⟨1, ![4]⟩
abbrev S1 : Shape := ⟨1, ![1]⟩
abbrev S_ : Shape := ⟨0, ![]⟩
abbrev S256x256 : Shape := ⟨2, ![256, 256]⟩
abbrev S1x256x256 : Shape := ⟨3, ![1, 256, 256]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x256, .bf16⟩
  | .local _ .vmem, ⟨0, _⟩ => ⟨S1024x256, .bf16⟩
  | .local _ .vmem, ⟨1, _⟩ => ⟨S256x1024, .f32⟩
  | .local _ .vmem, ⟨2, _⟩ => ⟨S1024x1024, .f32⟩
  | .local _ .vmem, ⟨3, _⟩ => ⟨S3x256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v9 : BitVec 32 := Scalar.addi v2 c1_i32_1
  let c4_i32_2 : BitVec 32 := 4#32
  let v10 : BitVec 32 := Scalar.remsi v9 c4_i32_2
  let c1_i32_4 : BitVec 32 := 1#32
  let v11 : BitVec 32 := Scalar.muli v10 c1_i32_4
  let v12 : BitVec 32 := Scalar.addi c0_i32_5 v11
  v12.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v13 : BitVec 32 := Scalar.addi v2 c2_i32
  let c4_i32_6 : BitVec 32 := 4#32
  let v14 : BitVec 32 := Scalar.remsi v13 c4_i32_6
  let c1_i32_8 : BitVec 32 := 1#32
  let v15 : BitVec 32 := Scalar.muli v14 c1_i32_8
  let v16 : BitVec 32 := Scalar.addi c0_i32_9 v15
  v16.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v17 : BitVec 32 := Scalar.addi v2 c3_i32
  let c4_i32_10 : BitVec 32 := 4#32
  let v18 : BitVec 32 := Scalar.remsi v17 c4_i32_10
  let c1_i32_12 : BitVec 32 := 1#32
  let v19 : BitVec 32 := Scalar.muli v18 c1_i32_12
  let v20 : BitVec 32 := Scalar.addi c0_i32_13 v19
  v20.toNat
def k0_off1 (d0 : Dev nD) (c2_i32_18 : BitVec 32) : Fin 2 → Nat :=
  let c0_21 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c2_i32_18
  let c4_i32_19 : BitVec 32 := 4#32
  let v27 : BitVec 32 := Scalar.remsi v26 c4_i32_19
  let c256_i32_20 : BitVec 32 := 256#32
  let v28 : BitVec 32 := Scalar.muli v27 c256_i32_20
  let v29 : Index := Scalar.indexCast v28
  ![0, v29.toNat]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v3 : BitVec 32 := Scalar.muli v2 c256_i32
  let c0_i32_30 : BitVec 32 := 0#32
  ![v3.toNat, 0]
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_18 : BitVec 32 := 2#32
  let v26 : BitVec 32 := Scalar.addi v2 c2_i32_18
  let c4_i32_19 : BitVec 32 := 4#32
  let v27 : BitVec 32 := Scalar.remsi v26 c4_i32_19
  let c1_i32_28 : BitVec 32 := 1#32
  let v38 : BitVec 32 := Scalar.muli v27 c1_i32_28
  let v39 : BitVec 32 := Scalar.addi c0_i32_29 v38
  v39.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v47 : BitVec 32 := Scalar.addi v2 c1_i32_33
  let c4_i32_34 : BitVec 32 := 4#32
  let v48 : BitVec 32 := Scalar.remsi v47 c4_i32_34
  let c1_i32_43 : BitVec 32 := 1#32
  let v59 : BitVec 32 := Scalar.muli v48 c1_i32_43
  let v60 : BitVec 32 := Scalar.addi c0_i32_44 v59
  v60.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_48 : BitVec 32 := 3#32
  let v68 : BitVec 32 := Scalar.addi v2 c3_i32_48
  let c4_i32_49 : BitVec 32 := 4#32
  let v69 : BitVec 32 := Scalar.remsi v68 c4_i32_49
  let c1_i32_58 : BitVec 32 := 1#32
  let v80 : BitVec 32 := Scalar.muli v69 c1_i32_58
  let v81 : BitVec 32 := Scalar.addi c0_i32_59 v80
  v81.toNat
def k0_off4 (d0 : Dev nD) : Fin 2 → Nat :=
  let c0_64 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_63 : BitVec 32 := 256#32
  let v89 : BitVec 32 := Scalar.muli v2 c256_i32_63
  let v90 : Index := Scalar.indexCast v89
  ![0, v90.toNat]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v3 : BitVec 32 := Scalar.muli v2 c256_i32
  let v96 : Index := Scalar.indexCast v3
  let c0_67 : Index := 0#32
  ![v96.toNat, 0]
def k0_off6 (d0 : Dev nD) (c1_i32_68 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.subi v2 c1_i32_68
  let c4_i32_69 : BitVec 32 := 4#32
  let v99 : BitVec 32 := Scalar.addi v98 c4_i32_69
  let c4_i32_70 : BitVec 32 := 4#32
  let v100 : BitVec 32 := Scalar.remsi v99 c4_i32_70
  ![v100.toNat]
def k0_off7 (d0 : Dev nD) (c1_i32_68 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.subi v2 c1_i32_68
  let c4_i32_69 : BitVec 32 := 4#32
  let v99 : BitVec 32 := Scalar.addi v98 c4_i32_69
  let c4_i32_70 : BitVec 32 := 4#32
  let v100 : BitVec 32 := Scalar.remsi v99 c4_i32_70
  let c256_i32_71 : BitVec 32 := 256#32
  let v101 : BitVec 32 := Scalar.muli v100 c256_i32_71
  let c0_i32_76 : BitVec 32 := 0#32
  ![v101.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Mesh.lean ====
/-
# Mesh: the four devices, the buffers and semaphores they share, and what the buffers hold

Every device `c` has 256 rows of `x` and all of `w`. It computes, for each device `p`, the tile
`tile c p = truncf (max (x_c · w[:, 256 p .. 256 p + 255]) 0)` and delivers it into rows `256 c ..` of `p`'s
result; its own tile it stores itself. So device `p` ends with the four tiles `tile 0 p … tile 3 p` below each
other (`gathered p`).

This module fixes the names: the neighbour `nb c k` at distance `k`, the row blocks of the result buffer, the
three slots of the send buffer, the semaphores, and the contents above as functions of the memory at launch.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ViewIndex
public import Idealize.ShloMosaic.Lib.Tactic

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

set_option backward.proofsInPublic true in
/-- The device `k` places after `c` around the mesh of four. -/
def nb (c : Dev nD) (k : ℕ) : Dev nD := ⟨(c.val + k) % 4, Nat.mod_lt _ (by decide)⟩

/-- The devices, seen from `c`. -/
theorem devs_from (c : Dev nD) : (Finset.univ : Finset (Dev nD)) = [c, nb c 1, nb c 2, nb c 3].toFinset := by
  revert c; decide
theorem devs_from_nodup (c : Dev nD) : [c, nb c 1, nb c 2, nb c 3].Nodup := by revert c; decide
/-- The peers of `c`. -/
theorem peers_from (c : Dev nD) : (Finset.univ.erase c : Finset (Dev nD)) = [nb c 1, nb c 2, nb c 3].toFinset := by
  revert c; decide
theorem peers_from_nodup (c : Dev nD) : [nb c 1, nb c 2, nb c 3].Nodup := by revert c; decide

theorem nb1_ne (c : Dev nD) : nb c 1 ≠ c := by revert c; decide
theorem nb2_ne (c : Dev nD) : nb c 2 ≠ c := by revert c; decide
theorem nb3_ne (c : Dev nD) : nb c 3 ≠ c := by revert c; decide

/-- The devices the barrier signals name, in program order, and the devices the three transfers name. -/
theorem signal1_dev (c : Dev nD) : (⟨k0_dev1 c, k0_dev1_lt c⟩ : Dev nD) = nb c 1 := Fin.ext (k0_dev1_eq c)
theorem signal2_dev (c : Dev nD) : (⟨k0_dev2 c, k0_dev2_lt c⟩ : Dev nD) = nb c 2 := Fin.ext (k0_dev2_eq c)
theorem signal3_dev (c : Dev nD) : (⟨k0_dev3 c, k0_dev3_lt c⟩ : Dev nD) = nb c 3 := Fin.ext (k0_dev3_eq c)
theorem send1_dev (c : Dev nD) : (⟨k0_dev4 c, k0_dev4_lt c⟩ : Dev nD) = nb c 2 := Fin.ext (k0_dev4_eq c)
theorem send2_dev (c : Dev nD) : (⟨k0_dev5 c, k0_dev5_lt c⟩ : Dev nD) = nb c 1 := Fin.ext (k0_dev5_eq c)
theorem send3_dev (c : Dev nD) : (⟨k0_dev6 c, k0_dev6_lt c⟩ : Dev nD) = nb c 3 := Fin.ext (k0_dev6_eq c)

/-! ## Semaphores -/

/-- The barrier semaphore. -/
abbrev barS : Sem sig := (SemArray.scalar (sig.barrier 0 rfl) : Sems sig S_).sem
/-- The semaphores of the two copies into the on-chip `x` and `w`. -/
abbrev xS : DmaSem sig := ((cc0_scratch3.slice (Rect.unit (s := S2) ![0] S1.size inb_S2_S1_0)).squeeze S_ squeezes_S1_S_ : DmaSems sig S_).sem
abbrev wS : DmaSem sig := ((cc0_scratch3.slice (Rect.unit (s := S2) ![1] S1.size inb_S2_S1_1)).squeeze S_ squeezes_S1_S_ : DmaSems sig S_).sem
/-- The semaphores of the three transfers' sources, one per slot of the send buffer. -/
abbrev sendA : DmaSem sig := ((cc0_scratch4.slice (Rect.unit (s := S3) ![0] S1.size inb_S3_S1_0)).squeeze S_ squeezes_S1_S_ : DmaSems sig S_).sem
abbrev sendB : DmaSem sig := ((cc0_scratch4.slice (Rect.unit (s := S3) ![1] S1.size inb_S3_S1_1)).squeeze S_ squeezes_S1_S_ : DmaSems sig S_).sem
abbrev sendC : DmaSem sig := ((cc0_scratch4.slice (Rect.unit (s := S3) ![2] S1.size inb_S3_S1_2)).squeeze S_ squeezes_S1_S_ : DmaSems sig S_).sem

set_option backward.proofsInPublic true in
/-- The semaphore on which a device receives device `s`'s tile. -/
def recvS (s : Dev nD) : DmaSem sig := (⟨6 + s.val, Nat.add_lt_add_left s.isLt 6⟩ : Fin 10)

/-- The printed receive semaphore of a transfer from `c`, -/
theorem recv_of_send (c : Dev nD) :
    ((cc0_scratch5.slice (Rect.unit (s := S4) (k0_off2 c) S1.size (k0_off2_inb c))).squeeze S_ squeezes_S1_S_ : DmaSems sig S_).sem = recvS c := by
  revert c; decide +kernel
/-- and those of the three waits, in program order. -/
theorem recv_of_wait1 (c : Dev nD) :
    ((cc0_scratch5.slice (Rect.unit (s := S4) (k0_off6 c 1#32) S1.size (k0_off6_inb c 0))).squeeze S_ squeezes_S1_S_ : DmaSems sig S_).sem = recvS (nb c 3) := by
  revert c; decide +kernel
theorem recv_of_wait2 (c : Dev nD) :
    ((cc0_scratch5.slice (Rect.unit (s := S4) (k0_off6 c 3#32) S1.size (k0_off6_inb c 2))).squeeze S_ squeezes_S1_S_ : DmaSems sig S_).sem = recvS (nb c 1) := by
  revert c; decide +kernel
theorem recv_of_wait3 (c : Dev nD) :
    ((cc0_scratch5.slice (Rect.unit (s := S4) (k0_off6 c 2#32) S1.size (k0_off6_inb c 1))).squeeze S_ squeezes_S1_S_ : DmaSems sig S_).sem = recvS (nb c 2) := by
  revert c; decide +kernel

theorem recvS_inj {a b : Dev nD} (h : recvS a = recvS b) : a = b := by revert a b; decide

/-! ## Buffers and their pieces -/

abbrev aM : Memref sig .tc .hbm S256x1024 .f32 := Memref.whole main_arg0
abbrev bM : Memref sig .tc .hbm S1024x1024 .f32 := Memref.whole main_arg1
abbrev oM : Memref sig .tc .vmem S1024x256 .bf16 := Memref.whole cc0_stg0_0
abbrev xM : Memref sig .tc .vmem S256x1024 .f32 := Memref.whole cc0_scratch0
abbrev wM : Memref sig .tc .vmem S1024x1024 .f32 := Memref.whole cc0_scratch1
abbrev yM : Memref sig .tc .vmem S3x256x256 .bf16 := Memref.whole cc0_scratch2

/-- Rows `256 s ..` of the result buffer: where device `s`'s tile goes. -/
abbrev rowsM (s : Dev nD) : Memref sig .tc .vmem S256x256 .bf16 :=
  oM.slice (Rect.unit (s := S1024x256) (k0_off3 s) S256x256.size (k0_off3_inb s)) (fun _ => rfl)

/-- The three slots of the send buffer, as stores address them and as transfers do. -/
abbrev slotRA : Rect S3x256x256 := Rect.unit (s := S3x256x256) ![0, 0, 0] S1x256x256.size inb_S3x256x256_S1x256x256_0_0_0
abbrev slotRB : Rect S3x256x256 := Rect.unit (s := S3x256x256) ![1, 0, 0] S1x256x256.size inb_S3x256x256_S1x256x256_1_0_0
abbrev slotRC : Rect S3x256x256 := Rect.unit (s := S3x256x256) ![2, 0, 0] S1x256x256.size inb_S3x256x256_S1x256x256_2_0_0
abbrev slotA : Memref sig .tc .vmem S256x256 .bf16 := (yM.slice slotRA (fun _ => rfl)).squeeze S256x256 squeezes_S1x256x256_S256x256
abbrev slotB : Memref sig .tc .vmem S256x256 .bf16 := (yM.slice slotRB (fun _ => rfl)).squeeze S256x256 squeezes_S1x256x256_S256x256
abbrev slotC : Memref sig .tc .vmem S256x256 .bf16 := (yM.slice slotRC (fun _ => rfl)).squeeze S256x256 squeezes_S1x256x256_S256x256

/-- What a tile's transfer credits, and what the two copies of the operands do. -/
abbrev NT : ℕ := (rowsM 0).view.dmaCredit
abbrev NX : ℕ := xM.view.dmaCredit
abbrev NW : ℕ := wM.view.dmaCredit
theorem NT_pos : 0 < NT := View.dmaCredit_pos _ (by decide)
theorem NX_pos : 0 < NX := View.dmaCredit_pos _ (by decide)
theorem NW_pos : 0 < NW := View.dmaCredit_pos _ (by decide)

theorem rows_credit (s : Dev nD) : (rowsM s).view.dmaCredit = NT := rfl
theorem slotA_credit : slotA.view.dmaCredit = NT := rfl
theorem slotB_credit : slotB.view.dmaCredit = NT := rfl
theorem slotC_credit : slotC.view.dmaCredit = NT := rfl

/-- The elements of those rows. -/
abbrev rowsI (s : Dev nD) : Finset S1024x256.Idx := (rowsM s).view.set

theorem rows_set (s : Dev nD) : rowsI s = (Rect.unit (s := S1024x256) (k0_off3 s) S256x256.size (k0_off3_inb s)).set :=
  View.set_slice_whole cc0_stg0_0 _

theorem rows_disjoint (s s' : Dev nD) (h : s ≠ s') : Disjoint (rowsI s) (rowsI s') := by
  rw [rows_set, rows_set]
  exact Ring.lead_disjoint (s := S1024x256) (NB := 4) 0 256 k0_off3 S256x256.size k0_off3_inb
    (fun b => by rw [k0_off3_eq]; rfl) rfl s s' h

theorem rows_cover : Finset.univ.biUnion rowsI = Finset.univ := by
  rw [show rowsI = fun s => (Rect.unit (s := S1024x256) (k0_off3 s) S256x256.size (k0_off3_inb s)).set from funext rows_set]
  exact Ring.lead_cover (s := S1024x256) (NB := 4) 0 256 k0_off3 S256x256.size k0_off3_inb
    (fun b => by rw [k0_off3_eq]; rfl) (fun b a ha => by rw [k0_off3_eq]; fin_cases a; exact absurd rfl ha; rfl) rfl
    (fun a ha => by fin_cases a; exact absurd rfl ha; rfl) rfl

/-! ## Contents -/

variable (m : (ℓ : Loc nD τ sig) → Buf (Elt F) ℓ)

/-- Device `c`'s rows of `x` and its copy of `w`, as launched. -/
def xOf (c : Dev nD) : (cc0_scratch0 : Ref sig .tc).ty.Contents (Elt F) := m ((c : Thread nD τ).loc main_arg0)
def wOf (c : Dev nD) : (cc0_scratch1 : Ref sig .tc).ty.Contents (Elt F) := m ((c : Thread nD τ).loc main_arg1)

/-- Columns `256 p ..` of device `c`'s `w`. -/
def wCols (c p : Dev nD) : Vec F S1024x256 .f32 :=
  wM.view.readAt (Elt F) (Rect.unit (s := S1024x1024) (k0_off4 p) S1024x256.size (k0_off4_inb p)).toLoadRect (wOf m c)

/-- The tile device `c` computes for device `p`. -/
def tile (c p : Dev nD) : FVec F S256x256 .bf16 := k0_pay5 (xOf m c) (wCols m c p)

set_option backward.proofsInPublic true in
/-- Device `p`'s result: tile `tile s p` in rows `256 s ..`. -/
def gathered (p : Dev nD) : (cc0_stg0_0 : Ref sig .tc).ty.Contents (Elt F) := fun (i : S1024x256.Idx) =>
  tile m ⟨(i 0).val / 256, Nat.div_lt_of_lt_mul (i 0).isLt⟩ p
    (fun | 0 => (⟨(i 0).val % 256, Nat.mod_lt _ (by decide)⟩ : Fin 256) | 1 => i 1)

end Cert.AllToAll

end
-- ==== Proof.Schedule.lean ====
/-
# Schedule: who raises which semaphore, by how much, and what comes with it

Every semaphore of the kernel has one round. On device `c`:

* its barrier is raised once by each of the three peers; the signal of peer `p` hands over rows `256 c ..` of `p`'s
  result buffer — where `c`'s tile for `p` goes — and that `p` has reached the round of its receive semaphore for `c`;
* the semaphores of the two copies of the operands are raised by the copies, which hand back the on-chip buffer filled
  and the array copied from;
* the three send semaphores are raised by the transfers, which hand back the slot;
* the receive semaphore for a peer `s` is raised by `s`'s transfer, which hands over rows `256 s ..` of `c`'s result
  buffer holding the gathered result. The receive semaphore for `c` itself is never raised.

At launch a device owes each peer one unit of its barrier and one tile of its receive semaphore.
-/
module

public import proofs.«01_k».proof.Proof.Mesh

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's ghost state beside this kernel's own, whose duties are named by the device that pays them. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barCell (c : Dev nD) : GSem nD τ sig := ((c : Thread nD τ), .reg barS)
abbrev dmaCell (c : Dev nD) (q : DmaSem sig) : GSem nD τ sig := ((c : Thread nD τ), .dma q)
abbrev recvCell (c s : Dev nD) : GSem nD τ sig := dmaCell c (recvS s)

/-! ## What is handed over -/

/-- Rows `256 s ..` of device `q`'s result buffer. -/
def oPts (q s : Dev nD) (f : Buf (Elt F) ((q : Thread nD τ).loc cc0_stg0_0)) : sProp 𝕄 :=
  ((q : Thread nD τ).loc cc0_stg0_0) ↦[rowsI s]{fullShare} f

/-- A piece of device `c`'s send buffer. -/
def yPts (c : Dev nD) (I : Finset S3x256x256.Idx) (f : Buf (Elt F) ((c : Thread nD τ).loc cc0_scratch2)) : sProp 𝕄 :=
  ((c : Thread nD τ).loc cc0_scratch2) ↦[I]{fullShare} f

def barPay (c p : Dev nD) : sProp 𝕄 := iprop((∃ f, oPts p c f) ∗ reached ER (recvCell p c) 0)
def xPay (c : Dev nD) : sProp 𝕄 :=
  iprop((((c : Thread nD τ).loc cc0_scratch0) ↦{fullShare} xOf m c) ∗ (((c : Thread nD τ).loc main_arg0) ↦{fullShare} m ((c : Thread nD τ).loc main_arg0)))
def wPay (c : Dev nD) : sProp 𝕄 :=
  iprop((((c : Thread nD τ).loc cc0_scratch1) ↦{fullShare} wOf m c) ∗ (((c : Thread nD τ).loc main_arg1) ↦{fullShare} m ((c : Thread nD τ).loc main_arg1)))
def slotPay (c : Dev nD) (I : Finset S3x256x256.Idx) : sProp 𝕄 := iprop(∃ f, yPts c I f)
def recvPay (c s : Dev nD) : sProp 𝕄 := oPts c s (gathered m c)

omit [FloatOps F] in
instance oPts_storable (q s : Dev nD) (f) : BI.Storable (upEmb : UEmb _ 𝕄) (oPts (F := F) q s f) := by unfold oPts; infer_instance
omit [FloatOps F] in
instance yPts_storable (c : Dev nD) (I) (f) : BI.Storable (upEmb : UEmb _ 𝕄) (yPts (F := F) c I f) := by unfold yPts; infer_instance

/-! ## The schedule -/

/-- The duties of a semaphore of device `c`. -/
def dutiesOf (c : Dev nD) : SemLoc sig → Finset (Dev nD)
  | .reg _ => Finset.univ.erase c
  | .dma q => if q = xS ∨ q = wS ∨ q = sendA ∨ q = sendB ∨ q = sendC then {0} else Finset.univ.filter fun s => s ≠ c ∧ q = recvS s

def amountOf : SemLoc sig → ℕ
  | .reg _ => 1
  | .dma q => if q = xS then NX else if q = wS then NW else NT

/-- What duty `d` of a semaphore of device `c` hands over. -/
def payOf (c d : Dev nD) : SemLoc sig → sProp 𝕄
  | .reg _ => barPay c d
  | .dma q => if q = xS then xPay m c else if q = wS then wPay m c
      else if q = sendA then slotPay c slotA.view.set else if q = sendB then slotPay c slotB.view.set else if q = sendC then slotPay c slotC.view.set
      else recvPay m c d

theorem amountOf_dma (q : DmaSem sig) : amountOf (.dma q) = if q = xS then NX else if q = wS then NW else NT := rfl
theorem payOf_dma (c d : Dev nD) (q : DmaSem sig) : payOf m c d (.dma q) = if q = xS then xPay m c else if q = wS then wPay m c
      else if q = sendA then slotPay c slotA.view.set else if q = sendB then slotPay c slotB.view.set else if q = sendC then slotPay c slotC.view.set
      else recvPay m c d := rfl

theorem amountOf_pos : ∀ q, 0 < amountOf q
  | .reg _ => Nat.one_pos
  | .dma q => by
    show 0 < if q = xS then NX else if q = wS then NW else NT
    split
    · exact NX_pos
    split
    · exact NW_pos
    exact NT_pos

def rd : Rounds.Schedule (GSem nD τ sig) (Dev nD) 𝕄 where
  duties g r := if r = 0 ∧ g.1.2 = .tc then dutiesOf g.1.1 g.2 else ∅
  unitless _ := False
  amount g _ _ := amountOf g.2
  payload g _ d := payOf m g.1.1 d g.2
  amount_pos g _ _ _ := amountOf_pos g.2

instance rd_payload_storable (g : GSem nD τ sig) (r : ℕ) (d : Dev nD) :
    BI.Storable (upEmb : UEmb _ 𝕄) ((rd (F := F) m).payload g r d) := by
  show BI.Storable upEmb (payOf m g.1.1 d g.2)
  rcases g.2 with q | q
  · show BI.Storable upEmb (barPay g.1.1 d)
    unfold barPay; infer_instance
  · unfold payOf xPay wPay slotPay recvPay
    dsimp only
    (repeat' split) <;> infer_instance

section Sched
variable (c s : Dev nD)

theorem duties_eq (q : SemLoc sig) : (rd (F := F) m).duties ((c : Thread nD τ), q) 0 = dutiesOf c q := by
  dsimp only [rd]; exact if_pos ⟨rfl, rfl⟩
theorem duties_later (g : GSem nD τ sig) : ∀ r, 1 ≤ r → (rd (F := F) m).duties g r = ∅ :=
  fun r hr => by dsimp only [rd]; exact if_neg fun h => by omega

theorem duties_bar : (rd (F := F) m).duties (barCell c) 0 = Finset.univ.erase c := duties_eq m c _
theorem duties_x : (rd (F := F) m).duties (dmaCell c xS) 0 = {0} := (duties_eq m c _).trans (by revert c; decide)
theorem duties_w : (rd (F := F) m).duties (dmaCell c wS) 0 = {0} := (duties_eq m c _).trans (by revert c; decide)
theorem duties_A : (rd (F := F) m).duties (dmaCell c sendA) 0 = {0} := (duties_eq m c _).trans (by revert c; decide)
theorem duties_B : (rd (F := F) m).duties (dmaCell c sendB) 0 = {0} := (duties_eq m c _).trans (by revert c; decide)
theorem duties_C : (rd (F := F) m).duties (dmaCell c sendC) 0 = {0} := (duties_eq m c _).trans (by revert c; decide)
theorem duties_recv (h : s ≠ c) : (rd (F := F) m).duties (recvCell c s) 0 = {s} := (duties_eq m c _).trans (by revert c s; decide)
/-- No device sends to itself. -/
theorem duties_recv_self : ∀ r, 0 ≤ r → (rd (F := F) m).duties (recvCell c c) r = ∅ := fun r _ => by
  rcases Nat.eq_zero_or_pos r with rfl | h
  · exact (duties_eq m c _).trans (by revert c; decide)
  · exact duties_later m _ r h

theorem amount_bar (d : Dev nD) : (rd (F := F) m).amount (barCell c) 0 d = 1 := rfl
theorem amount_x (d : Dev nD) : (rd (F := F) m).amount (dmaCell c xS) 0 d = NX := (amountOf_dma _).trans <| if_pos rfl
theorem amount_w (d : Dev nD) : (rd (F := F) m).amount (dmaCell c wS) 0 d = NW := (amountOf_dma _).trans <| (if_neg (by decide)).trans (if_pos rfl)
theorem amount_tile {q : DmaSem sig} (hx : q ≠ xS) (hw : q ≠ wS) (d : Dev nD) : (rd (F := F) m).amount (dmaCell c q) 0 d = NT :=
  (amountOf_dma q).trans <| (if_neg hx).trans (if_neg hw)
theorem recv_ne_x : recvS s ≠ xS := by revert s; decide
theorem recv_ne_w : recvS s ≠ wS := by revert s; decide
theorem recv_ne_A : recvS s ≠ sendA := by revert s; decide
theorem recv_ne_B : recvS s ≠ sendB := by revert s; decide
theorem recv_ne_C : recvS s ≠ sendC := by revert s; decide
theorem amount_A (d : Dev nD) : (rd (F := F) m).amount (dmaCell c sendA) 0 d = NT := amount_tile m c (by decide) (by decide) d
theorem amount_B (d : Dev nD) : (rd (F := F) m).amount (dmaCell c sendB) 0 d = NT := amount_tile m c (by decide) (by decide) d
theorem amount_C (d : Dev nD) : (rd (F := F) m).amount (dmaCell c sendC) 0 d = NT := amount_tile m c (by decide) (by decide) d
theorem amount_recv (d : Dev nD) : (rd (F := F) m).amount (recvCell c s) 0 d = NT := amount_tile m c (recv_ne_x s) (recv_ne_w s) d

theorem payload_bar (d : Dev nD) : (rd (F := F) m).payload (barCell c) 0 d = barPay c d := rfl
theorem payload_x (d : Dev nD) : (rd (F := F) m).payload (dmaCell c xS) 0 d = xPay m c := (payOf_dma m c d _).trans <| if_pos rfl
theorem payload_w (d : Dev nD) : (rd (F := F) m).payload (dmaCell c wS) 0 d = wPay m c := (payOf_dma m c d _).trans <| (if_neg (by decide)).trans (if_pos rfl)
theorem payload_A (d : Dev nD) : (rd (F := F) m).payload (dmaCell c sendA) 0 d = slotPay c slotA.view.set :=
  (payOf_dma m c d _).trans <| (if_neg (by decide)).trans <| (if_neg (by decide)).trans (if_pos rfl)
theorem payload_B (d : Dev nD) : (rd (F := F) m).payload (dmaCell c sendB) 0 d = slotPay c slotB.view.set :=
  (payOf_dma m c d _).trans <| (if_neg (by decide)).trans <| (if_neg (by decide)).trans <| (if_neg (by decide)).trans (if_pos rfl)
theorem payload_C (d : Dev nD) : (rd (F := F) m).payload (dmaCell c sendC) 0 d = slotPay c slotC.view.set :=
  (payOf_dma m c d _).trans <| (if_neg (by decide)).trans <| (if_neg (by decide)).trans <| (if_neg (by decide)).trans <| (if_neg (by decide)).trans (if_pos rfl)
theorem payload_recv (d : Dev nD) : (rd (F := F) m).payload (recvCell c s) 0 d = recvPay m c d :=
  (payOf_dma m c d _).trans <| (if_neg (recv_ne_x s)).trans <| (if_neg (recv_ne_w s)).trans <| (if_neg (recv_ne_A s)).trans <| (if_neg (recv_ne_B s)).trans (if_neg (recv_ne_C s))

theorem expect_one {g : GSem nD τ sig} {d : Dev nD} {n : ℕ} (hd : (rd (F := F) m).duties g 0 = {d}) (ha : (rd (F := F) m).amount g 0 d = n) :
    (rd (F := F) m).expect g 0 = n := by
  unfold Schedule.expect Schedule.amountOf; rw [hd, Finset.sum_singleton, ha]
theorem expect_bar : (rd (F := F) m).expect (barCell c) 0 = 3 := by
  unfold Schedule.expect Schedule.amountOf
  rw [duties_bar, Finset.sum_congr rfl fun d _ => amount_bar m c d, Finset.sum_const, smul_eq_mul, mul_one]
  revert c; decide

theorem rest_one {g : GSem nD τ sig} {d : Dev nD} {P : sProp 𝕄} (hd : (rd (F := F) m).duties g 0 = {d}) (hp : (rd (F := F) m).payload g 0 d = P) :
    bigSep ((rd (F := F) m).duties g 0 \ ∅) (fun d => (rd (F := F) m).payload g 0 d) = P := by
  rw [Finset.sdiff_empty, hd, bigSep_singleton, hp]
theorem rest_bar : bigSep ((rd (F := F) m).duties (barCell c) 0 \ ∅) (fun d => (rd (F := F) m).payload (barCell c) 0 d)
    = iprop(barPay c (nb c 1) ∗ barPay c (nb c 2) ∗ barPay c (nb c 3)) := by
  rw [Finset.sdiff_empty, duties_bar, bigSep_eq_bigSepL_of_eq [nb c 1, nb c 2, nb c 3] (peers_from c) (peers_from_nodup c),
    bigSepL_cons_cons, bigSepL_cons_cons, bigSepL_singleton]
  rfl

end Sched

/-! ## What a device owes, and the levels that order the waits -/

/-- One unit of a peer's barrier; one tile of a peer's receive semaphore. -/
abbrev owB (c : Dev nD) (k : ℕ) : CellTallies nD τ sig Unit := tallyAt (barCell (nb c k)) () 1
abbrev owR (c : Dev nD) (k : ℕ) : CellTallies nD τ sig Unit := tallyAt (recvCell (nb c k) c) () NT

/-- What is owed, the last summand paid first: the three signals, then the three transfers. -/
def O₄ (c : Dev nD) : CellTallies nD τ sig Unit := owR c 3 + owR c 1
def O₃ (c : Dev nD) : CellTallies nD τ sig Unit := O₄ c + owR c 2
def O₂ (c : Dev nD) : CellTallies nD τ sig Unit := O₃ c + owB c 3
def O₁ (c : Dev nD) : CellTallies nD τ sig Unit := O₂ c + owB c 2
def O₀ (c : Dev nD) : CellTallies nD τ sig Unit := O₁ c + owB c 1

def L (g : GSem nD τ sig) : Finset Unit := if g.1.2 = .tc then {()} else ∅
/-- Barriers below receive semaphores, all others below both. -/
def lvOf : SemLoc sig → ℕ
  | .reg _ => 1
  | .dma q => if 6 ≤ q.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem owes_pos {a b : CellTallies nD τ sig Unit} {g : GSem nD τ sig} {u : Unit} (h : 0 < (a + b) g u) : 0 < a g u ∨ 0 < b g u := by
  rw [Pi.add_apply, Finsupp.add_apply] at h; omega
theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem O₃_pos {c : Dev nD} {g : GSem nD τ sig} {u : Unit} (h : 0 < O₃ c g u) : ∃ k, g = recvCell (nb c k) c := by
  unfold O₃ O₄ at h
  rcases owes_pos h with h | h
  · rcases owes_pos h with h | h <;> exact ⟨_, tally_pos h⟩
  · exact ⟨_, tally_pos h⟩
theorem O₀_pos {c : Dev nD} {g : GSem nD τ sig} {u : Unit} (h : 0 < O₀ c g u) : ∃ k, g = recvCell (nb c k) c ∨ g = barCell (nb c k) := by
  unfold O₀ O₁ O₂ at h
  rcases owes_pos h with h | h
  · rcases owes_pos h with h | h
    · rcases owes_pos h with h | h
      · obtain ⟨k, hk⟩ := O₃_pos h; exact ⟨k, Or.inl hk⟩
      · exact ⟨_, Or.inr (tally_pos h)⟩
    · exact ⟨_, Or.inr (tally_pos h)⟩
  · exact ⟨_, Or.inr (tally_pos h)⟩

theorem lv_recv (c s : Dev nD) : lv (recvCell c s) () = 2 := if_pos (Nat.le_add_right 6 _)

omit [FloatOps F] in
/-- A wait on a semaphore of level 0 is allowed while everything, only transfers, or nothing is owed; -/
theorem mayWait_low (c : Dev nD) (q : DmaSem sig) (hq : ¬ 6 ≤ q.val) (O : CellTallies nD τ sig Unit) (hO : O = O₀ c ∨ O = O₃ c ∨ O = 0) :
    (levAts L lv : sProp 𝕄) ⊢ MayWait (c : Thread nD τ) (.dma q) () O := by
  rcases hO with rfl | rfl | rfl
  · refine MayOwe.of_cut (L := L) (lev := lv) 0 (fun p hp => by rw [Finset.mem_singleton.mp hp, L_tc]; exact Finset.mem_singleton_self _)
      (fun g u hg => by obtain ⟨k, rfl | rfl⟩ := O₀_pos hg <;> exact Finset.mem_singleton_self _)
      (fun p hp => by rw [Finset.mem_singleton.mp hp]; exact (if_neg hq).le)
      (fun g u hg => by
        obtain ⟨k, rfl | rfl⟩ := O₀_pos hg
        · rw [lv_recv]; decide
        · exact Nat.one_pos)
  · refine MayOwe.of_cut (L := L) (lev := lv) 0 (fun p hp => by rw [Finset.mem_singleton.mp hp, L_tc]; exact Finset.mem_singleton_self _)
      (fun g u hg => by obtain ⟨k, rfl⟩ := O₃_pos hg; exact Finset.mem_singleton_self _)
      (fun p hp => by rw [Finset.mem_singleton.mp hp]; exact (if_neg hq).le)
      (fun g u hg => by obtain ⟨k, rfl⟩ := O₃_pos hg; rw [lv_recv]; decide)
  · rw [MayWait_zero]; iintro -; iempintro

omit [FloatOps F] in
/-- and the wait on the barrier while only transfers are owed. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨k, rfl⟩ := O₃_pos hg; exact Finset.mem_singleton_self _)
    (fun p hp => by rw [Finset.mem_singleton.mp hp]; exact le_refl 1)
    (fun g u hg => by obtain ⟨k, rfl⟩ := O₃_pos hg; rw [lv_recv]; decide)

end Cert.AllToAll

end
-- ==== Proof.Pieces.lean ====
/-
# Pieces: what a store, a copy or a transfer leaves in a piece of a buffer

The facts the run needs about contents, each about ONE operation: a load of `w`'s columns reads `wCols`; a store
into a slot of the send buffer is read back, by the transfer out of that slot, as the tile stored; a tile written
into its rows of a result buffer leaves those rows as `gathered` has them; and the cut of the two buffers that
travel piece by piece (the result's four row blocks, the send buffer's three slots) and their joining again.
-/
module

public import proofs.«01_k».proof.Proof.Schedule

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (m : (ℓ : Loc nD τ sig) → Buf (Elt F) ℓ)

/-! ## Loads -/

omit [FloatOps F] in
theorem zero_off : (![0, 0] : Fin 2 → Nat) = fun _ => 0 := funext fun a => by fin_cases a <;> rfl

omit [FloatOps F] in
/-- The load of the on-chip `x` reads all of it. -/
theorem load_x (f : (cc0_scratch0 : Ref sig .tc).ty.Contents (Elt F)) :
    xM.view.readAt (Elt F) (Rect.unit (s := S256x1024) ![0, 0] S256x1024.size inb_S256x1024_S256x1024_0_0).toLoadRect f = f :=
  Memref.readAt_unit_zero (Elt F) cc0_scratch0 zero_off _ f

omit [FloatOps F] in
/-- A load of 256 columns of the on-chip `w` from a column that is `p`'s first reads `wCols`. -/
theorem load_w (c p : Dev nD) {off : Fin 2 → ℕ} (h : ∀ a, off a + S1024x256.size a ≤ S1024x1024.size a) (e : off = k0_off4 p) :
    wM.view.readAt (Elt F) (Rect.unit (s := S1024x1024) off S1024x256.size h).toLoadRect (wOf m c) = wCols m c p := by
  subst e; rfl

theorem cols1 (c : Dev nD) : k0_off1 c 1#32 = k0_off4 (nb c 1) := by rw [k0_off4_eq]; exact k0_off1_eq c 0
theorem cols2 (c : Dev nD) : k0_off1 c 2#32 = k0_off4 (nb c 2) := by rw [k0_off4_eq]; exact k0_off1_eq c 1
theorem cols3 (c : Dev nD) : k0_off1 c 3#32 = k0_off4 (nb c 3) := by rw [k0_off4_eq]; exact k0_off1_eq c 2

/-- The four printed tiles are one function of what was loaded. -/
theorem pay1_eq (x : Vec F S256x1024 .f32) (w : Vec F S1024x256 .f32) : k0_pay1 x w = k0_pay3 (k0_pay5 x w) := rfl
theorem pay2_eq (x : Vec F S256x1024 .f32) (w : Vec F S1024x256 .f32) : k0_pay2 x w = k0_pay5 x w := rfl
theorem pay4_eq (x : Vec F S256x1024 .f32) (w : Vec F S1024x256 .f32) : k0_pay4 x w = k0_pay3 (k0_pay5 x w) := rfl

/-! ## The send buffer -/

/-- What a transfer out of a slot reads after a tile was stored into the slot: the tile. -/
theorem slot_read (r : Rect S3x256x256) (hr : ∀ a, r.stride a = 1) (hs : r.shape = S1x256x256)
    (f : (cc0_scratch2 : Ref sig .tc).ty.Contents (Elt F)) (w : S256x256.Idx → Elt F .bf16)
    (h : S256x256.numel = r.shape.numel) :
    ((yM.access r).reshape S256x256 h).read (Elt F)
        ((yM.access r).write (Elt F) f (fun j => w (Shape.reshapeEquiv h.symm j)) Finset.univ) = w := by
  funext x
  show (yM.access r).read (Elt F) _ (Shape.reshapeEquiv h x) = _
  rw [View.read_write_univ, Shape.reshapeEquiv_reshapeEquiv, Shape.reshapeEquiv_self]

theorem slotA_read (f : (cc0_scratch2 : Ref sig .tc).ty.Contents (Elt F)) (w : FVec F S256x256 .bf16) :
    slotA.view.read (Elt F) ((yM.access slotRA).write (Elt F) f (k0_pay3 w) Finset.univ) = w :=
  slot_read slotRA (fun _ => rfl) rfl f w _
theorem slotB_read (f : (cc0_scratch2 : Ref sig .tc).ty.Contents (Elt F)) (w : FVec F S256x256 .bf16) :
    slotB.view.read (Elt F) ((yM.access slotRB).write (Elt F) f (k0_pay3 w) Finset.univ) = w :=
  slot_read slotRB (fun _ => rfl) rfl f w _
theorem slotC_read (f : (cc0_scratch2 : Ref sig .tc).ty.Contents (Elt F)) (w : FVec F S256x256 .bf16) :
    slotC.view.read (Elt F) ((yM.access slotRC).write (Elt F) f (k0_pay3 w) Finset.univ) = w :=
  slot_read slotRC (fun _ => rfl) rfl f w _

/-! ## The result buffer -/

/-- The rows of device `s`, read off the gathered result of device `p`, are tile `tile s p`. -/
theorem rows_read (s p : Dev nD) : (rowsM s).view.read (Elt F) (gathered m p) = tile m s p := by
  funext j
  show gathered m p ((Rect.unit (s := S1024x256) (k0_off3 s) S256x256.size (k0_off3_inb s)).emb j) = _
  have e0 : (((Rect.unit (s := S1024x256) (k0_off3 s) S256x256.size (k0_off3_inb s)).emb j (0 : Fin 2) : Fin _) : ℕ) = 256 * s.val + (j 0).val := by
    rw [Rect.emb_apply]; simp only [Rect.off_unit, Rect.stride_unit, k0_off3_eq]; show 256 * s.val + 1 * (j 0).val = _; omega
  have e1 : (((Rect.unit (s := S1024x256) (k0_off3 s) S256x256.size (k0_off3_inb s)).emb j (1 : Fin 2) : Fin _) : ℕ) = (j 1).val := by
    rw [Rect.emb_apply]; simp only [Rect.off_unit, Rect.stride_unit, k0_off3_eq]; show 0 + 1 * (j 1).val = _; omega
  have hj : (j 0).val < 256 := (j 0).isLt
  unfold gathered
  have hd : (⟨((Rect.unit (s := S1024x256) (k0_off3 s) S256x256.size (k0_off3_inb s)).emb j (0 : Fin 2)).val / 256, Nat.div_lt_of_lt_mul (Fin.isLt _)⟩ : Dev nD) = s :=
    Fin.ext (by show _ / 256 = s.val; rw [e0]; omega)
  refine (congrArg₂ (fun d i => tile m d p i) hd ?_)
  funext a
  fin_cases a
  · exact Fin.ext (by show _ % 256 = (j 0).val; rw [e0]; omega)
  · exact Fin.ext e1

/-- Two contents of the result buffer that the rows of device `s` read alike are one on those rows. -/
theorem rows_congr (q s : Dev nD) {f g : Buf (Elt F) ((q : Thread nD τ).loc cc0_stg0_0)}
    (h : (rowsM s).view.read (Elt F) f = (rowsM s).view.read (Elt F) g) : (oPts q s f : sProp 𝕄) = oPts q s g := by
  unfold oPts
  refine pointsTo_congr fun i hi => ?_
  obtain ⟨x, -, rfl⟩ := Finset.mem_map.mp hi
  exact View.eq_of_read_eq (congrFun h x)

/-- The tile of `s` for `q` written into the rows of `s` leaves them as the gathered result has them, -/
theorem rows_written (q s : Dev nD) (f : Buf (Elt F) ((q : Thread nD τ).loc cc0_stg0_0)) :
    (oPts q s ((rowsM s).view.write (Elt F) f (tile m s q) Finset.univ) : sProp 𝕄) = oPts q s (gathered m q) :=
  rows_congr q s (by rw [View.read_write_univ, rows_read])

/-- whichever way the rows are addressed. -/
theorem rows_stored (c : Dev nD) {off : Fin 2 → ℕ} (h : ∀ a, off a + S256x256.size a ≤ S1024x256.size a) (e : off = k0_off3 c)
    (f : Buf (Elt F) ((c : Thread nD τ).loc cc0_stg0_0)) :
    (oPts c c ((oM.access (Rect.unit (s := S1024x256) off S256x256.size h)).write (Elt F) f (tile m c c) Finset.univ) : sProp 𝕄)
      = oPts c c (gathered m c) := by
  subst e; exact rows_written m c c f

theorem rows_access (c : Dev nD) {off : Fin 2 → ℕ} (h : ∀ a, off a + S256x256.size a ≤ S1024x256.size a) (e : off = k0_off3 c) :
    (oM.access (Rect.unit (s := S1024x256) off S256x256.size h)).set = rowsI c := by
  subst e; rfl

/-- The result buffer is its four row blocks, here from device `c` on. -/
theorem rows_split (q c : Dev nD) (f : Buf (Elt F) ((q : Thread nD τ).loc cc0_stg0_0)) :
    (((q : Thread nD τ).loc cc0_stg0_0) ↦{fullShare} f : sProp 𝕄)
      = iprop(oPts q c f ∗ oPts q (nb c 1) f ∗ oPts q (nb c 2) f ∗ oPts q (nb c 3) f) := by
  rw [Ring.pointsTo_blocks (ℓ := (q : Thread nD τ).loc cc0_stg0_0) rowsI rows_disjoint rows_cover f,
    bigSep_eq_bigSepL_of_eq [c, nb c 1, nb c 2, nb c 3] (devs_from c) (devs_from_nodup c),
    bigSepL_cons_cons, bigSepL_cons_cons, bigSepL_cons_cons, bigSepL_singleton]
  rfl

/-! ## The slots -/

/-- The elements of the three slots. -/
def slotI : Fin 3 → Finset S3x256x256.Idx := fun | 0 => slotA.view.set | 1 => slotB.view.set | 2 => slotC.view.set

theorem slot_inb (b : Fin 3) : ∀ a, (![b.val, 0, 0] : Fin 3 → ℕ) a + S1x256x256.size a ≤ S3x256x256.size a := by
  revert b; decide
theorem slotI_eq (b : Fin 3) : slotI b = (Rect.unit (s := S3x256x256) ![b.val, 0, 0] S1x256x256.size (slot_inb b)).set := by
  fin_cases b
  · exact (View.set_reshape _ _).trans (View.set_slice_whole cc0_scratch2 _)
  · exact (View.set_reshape _ _).trans (View.set_slice_whole cc0_scratch2 _)
  · exact (View.set_reshape _ _).trans (View.set_slice_whole cc0_scratch2 _)

theorem slot_disjoint (b b' : Fin 3) (h : b ≠ b') : Disjoint (slotI b) (slotI b') := by
  rw [slotI_eq, slotI_eq]
  exact Ring.lead_disjoint (s := S3x256x256) (NB := 3) 0 1 (fun b => ![b.val, 0, 0]) S1x256x256.size slot_inb
    (fun b => (Nat.one_mul _).symm) rfl b b' h
theorem slot_cover : Finset.univ.biUnion slotI = Finset.univ := by
  rw [show slotI = fun b => (Rect.unit (s := S3x256x256) ![b.val, 0, 0] S1x256x256.size (slot_inb b)).set from funext slotI_eq]
  exact Ring.lead_cover (s := S3x256x256) (NB := 3) 0 1 (fun b => ![b.val, 0, 0]) S1x256x256.size slot_inb
    (fun b => (Nat.one_mul _).symm) (fun b a ha => by fin_cases a; exact absurd rfl ha; rfl; rfl) rfl
    (fun a ha => by fin_cases a; exact absurd rfl ha; rfl; rfl) rfl

theorem slots_list (Φ : Fin 3 → sProp 𝕄) : bigSep Finset.univ Φ = iprop(Φ 0 ∗ Φ 1 ∗ Φ 2) := bigSep_univ_eq_bigSepL [0, 1, 2] (by decide) (by decide) Φ

/-- The send buffer is its three slots; -/
theorem slots_split (c : Dev nD) (f : Buf (Elt F) ((c : Thread nD τ).loc cc0_scratch2)) :
    (((c : Thread nD τ).loc cc0_scratch2) ↦{fullShare} f : sProp 𝕄)
      = iprop(yPts c slotA.view.set f ∗ yPts c slotB.view.set f ∗ yPts c slotC.view.set f) := by
  rw [Ring.pointsTo_blocks (ℓ := (c : Thread nD τ).loc cc0_scratch2) slotI slot_disjoint slot_cover f, slots_list]
  rfl
/-- and the three slots, each holding what it may, are the send buffer again. -/
theorem slots_join (c : Dev nD) (f₀ : Buf (Elt F) ((c : Thread nD τ).loc cc0_scratch2)) :
    iprop(slotPay c slotA.view.set ∗ slotPay c slotB.view.set ∗ slotPay c slotC.view.set)
      ⊢ (iprop(∃ g, ((c : Thread nD τ).loc cc0_scratch2) ↦{fullShare} g) : sProp 𝕄) := by
  refine Entails.trans (Entails.of_eq ?_)
    (Ring.pointsTo_blocks_join_exists (ℓ := (c : Thread nD τ).loc cc0_scratch2) slotI slot_disjoint slot_cover (q := fullShare) f₀)
  rw [slots_list]
  rfl

theorem slotA_access : (yM.access slotRA).set = slotA.view.set := (View.set_reshape _ _).symm
theorem slotB_access : (yM.access slotRB).set = slotB.view.set := (View.set_reshape _ _).symm
theorem slotC_access : (yM.access slotRC).set = slotC.view.set := (View.set_reshape _ _).symm

/-! ## The copies of the operands -/

/-- The copy of `x` leaves `xOf`, -/
theorem x_copied (c : Dev nD) (f : Buf (Elt F) (xM.view.loc (c : Thread nD τ))) :
    xM.view.write (Elt F) f (aM.view.read (Elt F) (m ((c : Thread nD τ).loc main_arg0))) Finset.univ = xOf m c := by
  show (View.whole cc0_scratch0).write (Elt F) f ((View.whole main_arg0).read (Elt F) _) Finset.univ = _
  rw [View.read_whole]; exact View.write_whole_univ _ _ _
/-- the copy of `w` `wOf`. -/
theorem w_copied (c : Dev nD) (f : Buf (Elt F) (wM.view.loc (c : Thread nD τ))) :
    wM.view.write (Elt F) f (bM.view.read (Elt F) (m ((c : Thread nD τ).loc main_arg1))) Finset.univ = wOf m c := by
  show (View.whole cc0_scratch1).write (Elt F) f ((View.whole main_arg1).read (Elt F) _) Finset.univ = _
  rw [View.read_whole]; exact View.write_whole_univ _ _ _

end Cert.AllToAll

end
-- ==== Proof.Steps.lean ====
/-
# Steps: the kernel's three kinds of step on a semaphore, each as one rule

A device's run uses its semaphores in three ways: it signals a peer's barrier, it sends a tile to a peer, and it waits
on one of its own DMA semaphores, after which that semaphore is used no more and its counter, zero, is the device's.
Each is stated here once, at this kernel's schedule, over the records every device shares: that each semaphore's cell
is governed by the schedule, and that its only round has begun.
-/
module

public import proofs.«01_k».proof.Proof.Pieces

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The records -/

/-- A device's semaphores: the barrier, the two of the copies, the three of the sends; and one per peer to receive on. -/
abbrev Cix : Type := Fin 6 ⊕ Dev nD
abbrev ownOf : Fin 6 → SemLoc sig := fun
  | 0 => .reg barS | 1 => .dma xS | 2 => .dma wS | 3 => .dma sendA | 4 => .dma sendB | 5 => .dma sendC
abbrev csem : Cix → SemLoc sig := fun | .inl k => ownOf k | .inr s => .dma (recvS s)
abbrev kcell (ck : Dev nD × Cix) : GSem nD τ sig := ((ck.1 : Thread nD τ), csem ck.2)

/-- The semaphores' invariants, under the names `K`, and that round 0 of each has begun. -/
def records (K : Dev nD × Cix → ℕ) : sProp 𝕄 :=
  iprop((bigSep Finset.univ fun ck : Dev nD × Cix => cellInv ER (rd m) (K ck) (kcell ck))
    ∗ bigSep Finset.univ fun ck : Dev nD × Cix => reached ER (kcell ck) 0)

instance records_persistent (K : Dev nD × Cix → ℕ) : BI.Persistent (records m K) := by unfold records; infer_instance

variable (K : Dev nD × Cix → ℕ)

omit [FloatOps F] in
theorem all_at (Φ : Dev nD × Cix → sProp 𝕄) (ck : Dev nD × Cix) : bigSep Finset.univ Φ ⊢ Φ ck := bigSep_elim (Finset.mem_univ ck)

theorem records_inv (ck : Dev nD × Cix) : records m K ⊢ cellInv ER (rd m) (K ck) (kcell ck) := by
  unfold records
  iintro ⟨H, -⟩
  iapply (all_at (fun ck : Dev nD × Cix => (cellInv ER (rd m) (K ck) (kcell ck) : sProp 𝕄)) ck); iexact H
theorem records_reached (ck : Dev nD × Cix) : records m K ⊢ (reached ER (kcell ck) 0 : sProp 𝕄) := by
  unfold records
  iintro ⟨-, H⟩
  iapply (all_at (fun ck : Dev nD × Cix => (reached ER (kcell ck) 0 : sProp 𝕄)) ck); iexact H

/-- Device `c` owes `O`, whatever it has waited on. -/
def owing (c : Dev nD) (O : CellTallies nD τ sig Unit) : sProp 𝕄 := iprop(∃ W, owes (c : Thread nD τ) O W)

abbrev 𝒱₀ : Variants := Variants.none

section Rules

variable (c p n : Dev nD)

/-! ## Signal -/

/-- Device `c` signals the barrier of `p`, handing over the rows of its result buffer that are for `p`'s tile. -/
theorem wp_signal_peer (hn : n = p) (hp : p ≠ c) (O : CellTallies nD τ sig Unit) (f : Buf (Elt F) ((c : Thread nD τ).loc cc0_stg0_0))
    {α : Type} {Q : α → sProp 𝕄} {k : PUnit → Prog (TpuEff nD τ sig (Elt F) Λ₀ .tc) α} :
    iprop(records m K ∗ owing c (O + tallyAt (barCell p) () 1) ∗ dutyTok ER (barCell p) 0 c ∗ oPts c p f)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold owing
  iintro ⟨#HR, ⟨%W, HO⟩, Ht, Hf⟩ Hk
  iapply (Rounds.wp_signal 𝒱₀ ER (rd m) (c : Thread nD τ) none (dst := (n : Thread nD τ)) (κ := K (n, .inl 0)) (d := c)
    (by rw [duties_bar]; exact Finset.mem_erase.mpr ⟨hp.symm, Finset.mem_univ _⟩) (amount_bar m n c) () O rfl (W := W)) $$ [HO Ht Hf]
  · isplitr; · iapply (records_inv m K (n, .inl 0)); iexact HR
    isplitl [HO]; · iexact HO
    isplitl [Ht]; · iexact Ht
    isplitl [Hf]
    · rw [payload_bar]; unfold barPay
      isplitl [Hf]; · iexists f; iexact Hf
      iapply (records_reached m K (c, .inr n)); iexact HR
    iapply (records_reached m K (n, .inl 0)); iexact HR
  iintro HO
  iapply Hk
  iexists W; iexact HO

/-! ## Send -/

/-- Device `c` sends its tile for `p` out of a slot `S` into its rows of `p`'s result buffer. -/
theorem wp_send_tile (hn : n = p) (hp : p ≠ c) {q : DmaSem sig} (hq : q = recvS c) (S : Memref sig .tc .vmem S256x256 .bf16)
    (ks : Fin 6) (sS : DmaSem sig) (hks : ownOf ks = .dma sS)
    (hd : (0 : Dev nD) ∈ (rd (F := F) m).duties (dmaCell c sS) 0) (ha : (rd (F := F) m).amount (dmaCell c sS) 0 0 = NT)
    {hsc : (rowsM c : Memref sig (Dev.tc n : Thread nD τ).2.kind .vmem S256x256 .bf16).view.ref.isScScratch = false}
    {hsrc : S.view.WordExact} {hdst : (rowsM c).view.WordExact}
    {hsem : DmaTarget.Typed .vmem (.dma q) (.remote (Dev.tc n : Thread nD τ) (rowsM c) (.dma sS) hsc)}
    (fs : Buf (Elt F) (S.view.loc (c : Thread nD τ))) (hr : S.view.read (Elt F) fs = tile m c p)
    (hpay : (S.view.loc (c : Thread nD τ) ↦[S.view.set]{fullShare} fs : sProp 𝕄) ⊢ (rd m).payload (dmaCell c sS) 0 0)
    (fd : Buf (Elt F) ((p : Thread nD τ).loc cc0_stg0_0)) (O : CellTallies nD τ sig Unit)
    {α : Type} {Q : α → sProp 𝕄} {k : PUnit → Prog (TpuEff nD τ sig (Elt F) Λ₀ .tc) α} :
    iprop(records m K ∗ (S.view.loc (c : Thread nD τ) ↦[S.view.set]{fullShare} fs) ∗ oPts p c fd
        ∗ owing c (O + tallyAt (recvCell p c) () NT) ∗ dutyTok ER (dmaCell c sS) 0 0 ∗ dutyTok ER (recvCell p c) 0 c)
      ⊢ iprop(((cred (tallyAt (dmaCell c sS) () NT) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) (rowsM c) (.dma sS) hsc) (.dma q) hsrc hdst hsem) k) Q) := by
  subst hn; subst hq
  unfold owing
  have hI : records m K ⊢ cellInv ER (rd m) (K (c, .inl ks)) (dmaCell c sS) := by
    have := records_inv m K (c, .inl ks); unfold kcell csem at this; dsimp only at this; rwa [hks] at this
  have hR : records m K ⊢ (reached ER (dmaCell c sS) 0 : sProp 𝕄) := by
    have := records_reached m K (c, .inl ks); unfold kcell csem at this; dsimp only at this; rwa [hks] at this
  iintro ⟨#HR, Hs, Hd, ⟨%W, HO⟩, Ht, Htn⟩ Hk
  unfold oPts
  iapply (Rounds.wp_send_pointsTo 𝒱₀ ER (rd m) (c : Thread nD τ) none (κ₁ := K (c, .inl ks)) (κ₂ := K (n, .inr c))
    (r₁ := 0) (r₂ := 0) (d₁ := 0) (d₂ := c)  (fd := fd)
    hd (by rw [duties_recv m n c hp.symm]; exact Finset.mem_singleton_self _)
    () () NT (by exact rows_credit c) ha (amount_recv m n c c) O rfl (W := W) hpay
    (by rw [payload_recv, hr]; unfold recvPay; exact Entails.of_eq (rows_written m n c fd))) $$ [Hs Hd HO Ht Htn]
  · isplitr; · iapply hI; iexact HR
    isplitr; · iapply (records_inv m K (n, .inr c)); iexact HR
    isplitl [Hs]; · iexact Hs
    isplitl [Hd]; · iexact Hd
    isplitl [HO]; · iexact HO
    isplitl [Ht]; · iexact Ht
    isplitr; · iapply hR; iexact HR
    isplitl [Htn]; · iexact Htn
    iapply (records_reached m K (n, .inr c)); iexact HR
  iintro ⟨Hc, HO⟩
  iapply Hk
  isplitl [Hc]; · iexact Hc
  iexists W; iexact HO

/-! ## Wait -/

/-- Device `c` waits for all of the one duty of its DMA semaphore `q'`: what the duty hands over is its own, and the
    semaphore, at zero and never raised again, too. -/
theorem wp_wait_one {q q' : DmaSem sig} (hq : q = q') (kc : Cix) (hkc : csem kc = .dma q') {d : Dev nD} {N : ℕ} {P : sProp 𝕄}
    (hd : (rd (F := F) m).duties (dmaCell c q') 0 = {d}) (ha : (rd (F := F) m).amount (dmaCell c q') 0 d = N)
    (hp : (rd (F := F) m).payload (dmaCell c q') 0 d = P)
    {sp sp' : Space} {s s' : Shape} {e e' : EltTy} {src : Memref sig .tc sp' s' e'} {dst : Memref sig .tc sp s e}
    {hsrc : src.view.WordExact} {hdst : dst.view.WordExact} (hN : dst.view.dmaCredit = N) (O : CellTallies nD τ sig Unit)
    (hO : (levAts L lv : sProp 𝕄) ⊢ MayWait (c : Thread nD τ) (.dma q') () O)
    {α : Type} {Q : α → sProp 𝕄} {k : PUnit → Prog (TpuEff nD τ sig (Elt F) Λ₀ .tc) α} :
    iprop(records m K ∗ levAts L lv ∗ cred (tallyAt (dmaCell c q') () N) ∗ owing c O ∗ atPos ER (dmaCell c q') 0 ∅ 0)
      ⊢ iprop(((owing c O ∗ semVal (dmaCell c q') 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq; subst hN
  unfold owing
  have hI : records m K ⊢ cellInv ER (rd m) (K (c, kc)) (dmaCell c q) := by
    have := records_inv m K (c, kc); unfold kcell at this; dsimp only at this; rwa [hkc] at this
  iintro ⟨#HR, #Hlev, Hc, ⟨%W, HO⟩, Hat⟩ Hk
  iapply (Rounds.wp_wait_rest_token 𝒱₀ ER (rd m) (c : Thread nD τ) none (κ := K (c, kc))
      (wpE_waitDma2_eq 𝒱₀ (c : Thread nD τ) none Set.univ) (Set.mem_univ _) () (O := O) (W := W) (R := 0) (m := 0) (T := ∅)
      (by rw [Nat.zero_add]; exact (expect_one m hd ha).symm)) $$ [Hc HO Hat]
  · isplitr; · iapply hI; iexact HR
    isplitl [Hc]; · iexact Hc
    isplitl [HO]; · iexact HO
    isplitr; · iapply hO; iexact Hlev
    iexact Hat
  iintro ⟨HO, Hat, -, Hpay⟩
  ihave Hp := (Entails.of_eq (rest_one m hd hp)) $$ Hpay
  imod (Rounds.cell_close ER (rd m) (Set.mem_univ (K (c, kc))) (fun h => h) (R := 0 + 1) (duties_later m (dmaCell c q))) $$ [Hat] with Hz
  · isplitr; · iapply hI; iexact HR
    iexact Hat
  iapply Hk
  isplitl [HO]; · iexists _; iexact HO
  isplitl [Hz]; · iexact Hz
  iexact Hp

/-- Device `c` waits for all three signals on its barrier, owing transfers only: the peers' rows for its tiles are its own. -/
theorem wp_wait_peers
    {α : Type} {Q : α → sProp 𝕄} {k : PUnit → Prog (TpuEff nD τ sig (Elt F) Λ₀ .tc) α} :
    iprop(records m K ∗ levAts L lv ∗ cred (tallyAt (barCell c) () 3) ∗ owing c (O₃ c) ∗ atPos ER (barCell c) 0 ∅ 0)
      ⊢ iprop(((owing c (O₃ c) ∗ semVal (barCell c) 0 ∗ barPay c (nb c 1) ∗ barPay c (nb c 2) ∗ barPay c (nb c 3))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold owing
  iintro ⟨#HR, #Hlev, Hc, ⟨%W, HO⟩, Hat⟩ Hk
  iapply (Rounds.wp_wait_rest_token 𝒱₀ ER (rd m) (c : Thread nD τ) none (κ := K (c, .inl 0))
      (wpE_semWait_eq 𝒱₀ (c : Thread nD τ) none Set.univ) (Set.mem_univ _) () (O := O₃ c) (W := W) (R := 0) (m := 0) (T := ∅)
      (by rw [expect_bar])) $$ [Hc HO Hat]
  · isplitr; · iapply (records_inv m K (c, .inl 0)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (rd m) (Set.mem_univ (K (c, .inl 0))) (fun h => h) (R := 0 + 1) (duties_later m (barCell c))) $$ [Hat] with Hz
  · isplitr; · iapply (records_inv m K (c, .inl 0)); iexact HR
    iexact Hat
  iapply Hk
  isplitl [HO]; · iexists _; iexact HO
  isplitl [Hz]; · iexact Hz
  iexact Hp

/-- The receive semaphore for `c` itself, never raised, is `c`'s at zero at any time. -/
theorem close_self : iprop(records m K ∗ atPos ER (recvCell c c) 0 ∅ 0) ⊢ |={Set.univ}=> semVal (recvCell c c) 0 := by
  iintro ⟨#HR, Hat⟩
  iapply (Rounds.cell_close ER (rd m) (Set.mem_univ (K (c, .inr c))) (fun h => h) (R := 0) (duties_recv_self m c))
  isplitr; · iapply (records_inv m K (c, .inr c)); iexact HR
  iexact Hat

end Rules

end Cert.AllToAll

end
-- ==== Proof.Body.lean ====
/-
# Body: one device's run of the kernel, from its start to its end

The body is executed once, at a symbolic device `c`, one rule per effect in program order. It starts from the device's
share of the launch (`ghost`, the credit of what the peers owe it, its two operands and its four on-chip buffers) and
ends with the result buffer at `gathered m c`, the operands as they were and every semaphore at zero.
-/
module

public import proofs.«01_k».proof.Proof.Steps

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Start and end -/

/-- Device `c`'s positions on its ten semaphores. -/
def positions (c : Dev nD) : sProp 𝕄 :=
  iprop(atPos ER (barCell c) 0 ∅ 0 ∗ atPos ER (dmaCell c xS) 0 ∅ 0 ∗ atPos ER (dmaCell c wS) 0 ∅ 0
    ∗ atPos ER (dmaCell c sendA) 0 ∅ 0 ∗ atPos ER (dmaCell c sendB) 0 ∅ 0 ∗ atPos ER (dmaCell c sendC) 0 ∅ 0
    ∗ atPos ER (recvCell c c) 0 ∅ 0 ∗ atPos ER (recvCell c (nb c 1)) 0 ∅ 0 ∗ atPos ER (recvCell c (nb c 2)) 0 ∅ 0 ∗ atPos ER (recvCell c (nb c 3)) 0 ∅ 0)
/-- The tokens of the duties it pays: the peers' barriers, the peers' receive semaphores for it, its own five. -/
def payToks (c : Dev nD) : sProp 𝕄 :=
  iprop((dutyTok ER (barCell (nb c 1)) 0 c ∗ dutyTok ER (barCell (nb c 2)) 0 c ∗ dutyTok ER (barCell (nb c 3)) 0 c)
    ∗ (dutyTok ER (recvCell (nb c 1) c) 0 c ∗ dutyTok ER (recvCell (nb c 2) c) 0 c ∗ dutyTok ER (recvCell (nb c 3) c) 0 c)
    ∗ dutyTok ER (dmaCell c xS) 0 0 ∗ dutyTok ER (dmaCell c wS) 0 0
    ∗ dutyTok ER (dmaCell c sendA) 0 0 ∗ dutyTok ER (dmaCell c sendB) 0 0 ∗ dutyTok ER (dmaCell c sendC) 0 0)
def ghost (K : Dev nD × Cix → ℕ) (c : Dev nD) : sProp 𝕄 := iprop(records m K ∗ positions c ∗ payToks c)

/-- The credit of what the peers owe it. -/
def credits (c : Dev nD) : sProp 𝕄 :=
  iprop(cred (tallyAt (barCell c) () 3) ∗ cred (tallyAt (recvCell c (nb c 1)) () NT) ∗ cred (tallyAt (recvCell c (nb c 2)) () NT)
    ∗ cred (tallyAt (recvCell c (nb c 3)) () NT))

/-- Its two operands, as launched. -/
def operands (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- Its on-chip buffers, whatever they hold. -/
def onchip (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def start (c : Dev nD) : sProp 𝕄 := iprop((∃ K, ghost m K c) ∗ credits c ∗ levAts L lv ∗ operands m c)

def Φ₀ (c : Dev nD) : sProp 𝕄 := iprop(start m c ∗ onchip c)

/-- All of its semaphores at zero: the barrier, then its own. -/
def zeros (c : Dev nD) : sProp 𝕄 :=
  iprop(semVal (dmaCell c xS) 0 ∗ semVal (dmaCell c wS) 0 ∗ semVal (dmaCell c sendA) 0 ∗ semVal (dmaCell c sendB) 0 ∗ semVal (dmaCell c sendC) 0
    ∗ semVal (recvCell c c) 0 ∗ semVal (recvCell c (nb c 1)) 0 ∗ semVal (recvCell c (nb c 2)) 0 ∗ semVal (recvCell c (nb c 3)) 0)
def Φ₁ (c : Dev nD) : sProp 𝕄 := iprop((semVal (barCell c) 0 ∗ operands m c) ∗ zeros c ∗ onchip c)

/-! ## The launch's description of the kernel -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => gathered m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = Φ (0 : Fin 1) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The run -/

section Run

variable (K : Dev nD × Cix → ℕ)

def bodyPre (c : Dev nD) : sProp 𝕄 :=
  iprop((ghost m K c ∗ credits c ∗ levAts L lv ∗ operands m c ∗ onchip c)
    ∗ owing c (O₀ c) ∗ (∃ f : Buf (Elt F) ((c : Thread nD τ).loc cc0_stg0_0), ((c : Thread nD τ).loc cc0_stg0_0) ↦{fullShare} f))

def bodyPost (c : Dev nD) : sProp 𝕄 :=
  iprop(Φ₁ m c ∗ owing c 0 ∗ (((c : Thread nD τ).loc cc0_stg0_0) ↦{fullShare} gathered m c))

/-- A buffer held whole is what a view of all of it holds. -/
theorem whole_pts (c : Dev nD) (b : Ref sig .tc) (f : Buf (Elt F) ((c : Thread nD τ).loc b)) :
    (((c : Thread nD τ).loc b) ↦{fullShare} f : sProp 𝕄)
      = ((View.whole b).loc (c : Thread nD τ) ↦[(View.whole b).set]{fullShare} f) := by
  rw [View.set_whole]

theorem own_rows (c : Dev nD) : k0_off5 c = k0_off3 c := (k0_off5_eq c).trans (k0_off3_eq c).symm

/-- The store of its own tile leaves its own rows as gathered. -/
theorem own_stored (c : Dev nD) (f : Buf (Elt F) ((c : Thread nD τ).loc cc0_stg0_0)) :
    ((oM.access (Rect.unit (s := S1024x256) (k0_off5 c) S256x256.size (k0_off5_inb c))).loc (c : Thread nD τ) ↦[rowsI c]{fullShare}
        (oM.access (Rect.unit (s := S1024x256) (k0_off5 c) S256x256.size (k0_off5_inb c))).write (Elt F) f (k0_pay5 (xOf m c) (wCols m c c)) Finset.univ : sProp 𝕄)
      ⊢ oPts c c (gathered m c) :=
  Entails.of_eq (rows_stored m c (k0_off5_inb c) (own_rows c) f)

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body aM (Memref.isWhole_whole _) bM (Memref.isWhole_whole _) oM (Memref.isWhole_whole _) xM (Memref.isWhole_whole _)
            wM (Memref.isWhole_whole _) yM (Memref.isWhole_whole _) cc0_scratch3 cc0_scratch4 cc0_scratch5) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost positions payToks credits operands onchip
  iintro ⟨⟨⟨⟨#HR, ⟨HaB, HaX, HaW, HaS1, HaS2, HaS3, HaV0, HaV1, HaV2, HaV3⟩, ⟨HtB1, HtB2, HtB3⟩, ⟨HtV1, HtV2, HtV3⟩, HtX, HtW, HtS1, HtS2, HtS3⟩,
    ⟨HcB, HcV1, HcV2, HcV3⟩, #Hlev, ⟨Harg0, Harg1⟩, ⟨%fx, Hx⟩, ⟨%fw, Hw⟩, ⟨%fy, Hy⟩⟩, HO, ⟨%fo, Hout⟩⟩, Hk⟩
  -- the two COPIES of the operands on chip
  ihave Harg0 := (Entails.of_eq (whole_pts c main_arg0 _)) $$ Harg0
  ihave Harg1 := (Entails.of_eq (whole_pts c main_arg1 _)) $$ Harg1
  ihave Hx := (Entails.of_eq (whole_pts c cc0_scratch0 _)) $$ Hx
  ihave Hw := (Entails.of_eq (whole_pts c cc0_scratch1 _)) $$ Hw
  iapply (Rounds.wp_copy_pointsTo 𝒱₀ ER (rd m) (c : Thread nD τ) none (src := aM) (dst := xM) (κ := K (c, .inl 1)) (r := 0) (d := 0) (fd := fx)
      (by rw [duties_x]; exact Finset.mem_singleton_self _) () NX rfl (amount_x m c 0)
      (by rw [x_copied, payload_x]; unfold xPay; rw [whole_pts c main_arg0, whole_pts c cc0_scratch0])) $$ [Harg0 Hx HtX]
  · isplitr; · iapply (records_inv m K (c, .inl 1)); iexact HR
    isplitl [Harg0]; · iexact Harg0
    isplitl [Hx]; · iexact Hx
    isplitl [HtX]; · iexact HtX
    iapply (records_reached m K (c, .inl 1)); iexact HR
  iintro HcX
  iapply (Rounds.wp_copy_pointsTo 𝒱₀ ER (rd m) (c : Thread nD τ) none (src := bM) (dst := wM) (κ := K (c, .inl 2)) (r := 0) (d := 0) (fd := fw)
      (by rw [duties_w]; exact Finset.mem_singleton_self _) () NW rfl (amount_w m c 0)
      (by rw [w_copied, payload_w]; unfold wPay; rw [whole_pts c main_arg1, whole_pts c cc0_scratch1])) $$ [Harg1 Hw HtW]
  · isplitr; · iapply (records_inv m K (c, .inl 2)); iexact HR
    isplitl [Harg1]; · iexact Harg1
    isplitl [Hw]; · iexact Hw
    isplitl [HtW]; · iexact HtW
    iapply (records_reached m K (c, .inl 2)); iexact HR
  iintro HcW
  -- the three SIGNALS, each handing a peer its rows of the result buffer
  ihave Hout' := (Entails.of_eq (rows_split c c fo)) $$ Hout
  icases Hout' with ⟨Ho0, Ho1, Ho2, Ho3⟩
  iapply (wp_signal_peer m K c (nb c 1) _ (signal1_dev c) (nb1_ne c) (O₁ c) fo) $$ [HO HtB1 Ho1]
  · isplitr; · iexact HR
    isplitl [HO]; · iexact HO
    isplitl [HtB1] <;> iassumption
  iintro HO
  iapply (wp_signal_peer m K c (nb c 2) _ (signal2_dev c) (nb2_ne c) (O₂ c) fo) $$ [HO HtB2 Ho2]
  · isplitr; · iexact HR
    isplitl [HO]; · iexact HO
    isplitl [HtB2] <;> iassumption
  iintro HO
  iapply (wp_signal_peer m K c (nb c 3) _ (signal3_dev c) (nb3_ne c) (O₃ c) fo) $$ [HO HtB3 Ho3]
  · isplitr; · iexact HR
    isplitl [HO]; · iexact HO
    isplitl [HtB3] <;> iassumption
  iintro HO
  -- the WAIT for the three peers' signals
  iapply (wp_wait_peers m K c) $$ [HcB HO HaB]
  · isplitr; · iexact HR
    isplitr; · iexact Hlev
    isplitl [HcB]; · iexact HcB
    isplitl [HO] <;> iassumption
  unfold barPay
  iintro ⟨HO, HzB, ⟨⟨%f1, Hp1⟩, -⟩, ⟨⟨%f2, Hp2⟩, -⟩, ⟨⟨%f3, Hp3⟩, -⟩⟩
  -- the waits for the two copies
  iapply (wp_wait_one m K c (q' := xS) rfl (.inl 1) rfl (duties_x m c) (amount_x m c 0) (payload_x m c 0) rfl (O₃ c)
      (mayWait_low c xS (by decide) _ (Or.inr (Or.inl rfl)))) $$ [HcX HO HaX]
  · isplitr; · iexact HR
    isplitr; · iexact Hlev
    isplitl [HcX]; · iexact HcX
    isplitl [HO] <;> iassumption
  unfold xPay
  iintro ⟨HO, HzX, Hx, Harg0⟩
  iapply (wp_wait_one m K c (q' := wS) rfl (.inl 2) rfl (duties_w m c) (amount_w m c 0) (payload_w m c 0) rfl (O₃ c)
      (mayWait_low c wS (by decide) _ (Or.inr (Or.inl rfl)))) $$ [HcW HO HaW]
  · isplitr; · iexact HR
    isplitr; · iexact Hlev
    isplitl [HcW]; · iexact HcW
    isplitl [HO] <;> iassumption
  unfold wPay
  iintro ⟨HO, HzW, Hw, Harg1⟩
  -- the three slots of the send buffer
  ihave Hy' := (Entails.of_eq (slots_split c fy)) $$ Hy
  unfold yPts
  icases Hy' with ⟨HyA, HyB, HyC⟩
  -- the tile for `nb c 2`: computed, stored in slot A, sent
  iapply (wp_load 𝒱₀ (c : Thread nD τ) none Set.univ (m := xM) (Finset.subset_univ _)) $$ Hx; iintro Hx
  rw [load_x]
  iapply (wp_load 𝒱₀ (c : Thread nD τ) none Set.univ (m := wM) (Finset.subset_univ _)) $$ Hw; iintro Hw
  rw [load_w m c (nb c 2) _ (cols2 c)]
  iapply (wp_load_rect 𝒱₀ (c : Thread nD τ) none Set.univ (m := yM) (r := slotRA) slotA_access.subset) $$ HyA; iintro HyA
  iapply (wp_store 𝒱₀ (c : Thread nD τ) none Set.univ (m := yM) (r := slotRA) (Mk := Finset.univ) (View.setOn_univ _ ▸ slotA_access.subset)) $$ HyA; iintro HyA
  iapply (wp_send_tile m K c (nb c 2) _ (send1_dev c) (nb2_ne c) (recv_of_send c) slotA 3 sendA rfl
      (by rw [duties_A]; exact Finset.mem_singleton_self _) (amount_A m c 0) _ (slotA_read fy (tile m c (nb c 2)))
      (by rw [payload_A]; unfold slotPay yPts; iintro H; iexists _; iexact H) f2 (O₄ c)) $$ [HyA Hp2 HO HtS1 HtV2]
  · isplitr; · iexact HR
    isplitl [HyA]; · iexact HyA
    isplitl [Hp2]; · iexact Hp2
    isplitl [HO]; · iexact HO
    isplitl [HtS1] <;> iassumption
  iintro ⟨HcS1, HO⟩
  -- the tile for `nb c 1`, through slot B
  iapply (wp_load 𝒱₀ (c : Thread nD τ) none Set.univ (m := wM) (Finset.subset_univ _)) $$ Hw; iintro Hw
  rw [load_w m c (nb c 1) _ (cols1 c)]
  iapply (wp_load_rect 𝒱₀ (c : Thread nD τ) none Set.univ (m := yM) (r := slotRB) slotB_access.subset) $$ HyB; iintro HyB
  iapply (wp_store 𝒱₀ (c : Thread nD τ) none Set.univ (m := yM) (r := slotRB) (Mk := Finset.univ) (View.setOn_univ _ ▸ slotB_access.subset)) $$ HyB; iintro HyB
  iapply (wp_send_tile m K c (nb c 1) _ (send2_dev c) (nb1_ne c) (recv_of_send c) slotB 4 sendB rfl
      (by rw [duties_B]; exact Finset.mem_singleton_self _) (amount_B m c 0) _ (slotB_read fy (tile m c (nb c 1)))
      (by rw [payload_B]; unfold slotPay yPts; iintro H; iexists _; iexact H) f1 (owR c 3)) $$ [HyB Hp1 HO HtS2 HtV1]
  · isplitr; · iexact HR
    isplitl [HyB]; · iexact HyB
    isplitl [Hp1]; · iexact Hp1
    isplitl [HO]; · iexact HO
    isplitl [HtS2] <;> iassumption
  iintro ⟨HcS2, HO⟩
  -- the tile for `nb c 3`, through slot C
  iapply (wp_load 𝒱₀ (c : Thread nD τ) none Set.univ (m := wM) (Finset.subset_univ _)) $$ Hw; iintro Hw
  rw [load_w m c (nb c 3) _ (cols3 c)]
  iapply (wp_load_rect 𝒱₀ (c : Thread nD τ) none Set.univ (m := yM) (r := slotRC) slotC_access.subset) $$ HyC; iintro HyC
  iapply (wp_store 𝒱₀ (c : Thread nD τ) none Set.univ (m := yM) (r := slotRC) (Mk := Finset.univ) (View.setOn_univ _ ▸ slotC_access.subset)) $$ HyC; iintro HyC
  iapply (wp_send_tile m K c (nb c 3) _ (send3_dev c) (nb3_ne c) (recv_of_send c) slotC 5 sendC rfl
      (by rw [duties_C]; exact Finset.mem_singleton_self _) (amount_C m c 0) _ (slotC_read fy (tile m c (nb c 3)))
      (by rw [payload_C]; unfold slotPay yPts; iintro H; iexists _; iexact H) f3 0) $$ [HyC Hp3 HO HtS3 HtV3]
  · isplitr; · iexact HR
    isplitl [HyC]; · iexact HyC
    isplitl [Hp3]; · iexact Hp3
    isplitl [HO]; · rw [zero_add]; iexact HO
    isplitl [HtS3] <;> iassumption
  iintro ⟨HcS3, HO⟩
  -- its own tile, stored into its own rows
  iapply (wp_load 𝒱₀ (c : Thread nD τ) none Set.univ (m := wM) (Finset.subset_univ _)) $$ Hw; iintro Hw
  rw [load_w m c c _ rfl]
  unfold oPts
  iapply (wp_load_rect 𝒱₀ (c : Thread nD τ) none Set.univ (m := oM) (rows_access c (k0_off5_inb c) (own_rows c)).subset) $$ Ho0; iintro Ho0
  iapply (wp_store 𝒱₀ (c : Thread nD τ) none Set.univ (m := oM) (Mk := Finset.univ)
      (View.setOn_univ _ ▸ (rows_access c (k0_off5_inb c) (own_rows c)).subset)) $$ Ho0; iintro Ho0
  ihave Ho0 := (own_stored m c fo) $$ Ho0
  -- the waits for the three peers' tiles
  iapply (wp_wait_one m K c (recv_of_wait1 c) (.inr (nb c 3)) rfl (duties_recv m c _ (nb3_ne c)) (amount_recv m c _ _) (payload_recv m c _ _) (by rfl) 0
      (by rw [MayWait_zero]; iintro -; iempintro)) $$ [HcV3 HO HaV3]
  · isplitr; · iexact HR
    isplitr; · iexact Hlev
    isplitl [HcV3]; · iexact HcV3
    isplitl [HO] <;> iassumption
  iintro ⟨HO, HzV3, Ho3⟩
  iapply (wp_wait_one m K c (recv_of_wait2 c) (.inr (nb c 1)) rfl (duties_recv m c _ (nb1_ne c)) (amount_recv m c _ _) (payload_recv m c _ _) (by rfl) 0
      (by rw [MayWait_zero]; iintro -; iempintro)) $$ [HcV1 HO HaV1]
  · isplitr; · iexact HR
    isplitr; · iexact Hlev
    isplitl [HcV1]; · iexact HcV1
    isplitl [HO] <;> iassumption
  iintro ⟨HO, HzV1, Ho1⟩
  iapply (wp_wait_one m K c (recv_of_wait3 c) (.inr (nb c 2)) rfl (duties_recv m c _ (nb2_ne c)) (amount_recv m c _ _) (payload_recv m c _ _) (by rfl) 0
      (by rw [MayWait_zero]; iintro -; iempintro)) $$ [HcV2 HO HaV2]
  · isplitr; · iexact HR
    isplitr; · iexact Hlev
    isplitl [HcV2]; · iexact HcV2
    isplitl [HO] <;> iassumption
  iintro ⟨HO, HzV2, Ho2⟩
  -- the waits for its three transfers: the slots back
  iapply (wp_wait_one m K c (q' := sendA) rfl (.inl 3) rfl (duties_A m c) (amount_A m c 0) (payload_A m c 0) (by rfl) 0
      (by rw [MayWait_zero]; iintro -; iempintro)) $$ [HcS1 HO HaS1]
  · isplitr; · iexact HR
    isplitr; · iexact Hlev
    isplitl [HcS1]; · iexact HcS1
    isplitl [HO] <;> iassumption
  iintro ⟨HO, HzS1, HyA⟩
  iapply (wp_wait_one m K c (q' := sendB) rfl (.inl 4) rfl (duties_B m c) (amount_B m c 0) (payload_B m c 0) (by rfl) 0
      (by rw [MayWait_zero]; iintro -; iempintro)) $$ [HcS2 HO HaS2]
  · isplitr; · iexact HR
    isplitr; · iexact Hlev
    isplitl [HcS2]; · iexact HcS2
    isplitl [HO] <;> iassumption
  iintro ⟨HO, HzS2, HyB⟩
  iapply (wp_wait_one m K c (q' := sendC) rfl (.inl 5) rfl (duties_C m c) (amount_C m c 0) (payload_C m c 0) (by rfl) 0
      (by rw [MayWait_zero]; iintro -; iempintro)) $$ [HcS3 HO HaS3]
  · isplitr; · iexact HR
    isplitr; · iexact Hlev
    isplitl [HcS3]; · iexact HcS3
    isplitl [HO] <;> iassumption
  iintro ⟨HO, HzS3, HyC⟩
  imod (close_self m K c) $$ [HaV0] with HzV0
  · isplitr; · iexact HR
    iexact HaV0
  rw [wp_ret]; imodintro
  -- the buffers whole again
  ihave Hout := (Entails.of_eq (rows_split c c (gathered m c)).symm) $$ [Ho0 Ho1 Ho2 Ho3]
  · unfold recvPay
    isplitl [Ho0]; · iexact Ho0
    isplitl [Ho1]; · iexact Ho1
    isplitl [Ho2] <;> iassumption
  ihave Hy := (slots_join c fy) $$ [HyA HyB HyC]
  · isplitl [HyA]; · iexact HyA
    isplitl [HyB] <;> iassumption
  iapply Hk
  unfold bodyPost Φ₁ operands zeros onchip
  isplitr [HO Hout]
  · isplitl [HzB Harg0 Harg1]
    · isplitl [HzB]; · iexact HzB
      isplitl [Harg0] <;> iassumption
    isplitr [Hx Hw Hy]
    · isplitl [HzX]; · iexact HzX
      isplitl [HzW]; · iexact HzW
      isplitl [HzS1]; · iexact HzS1
      isplitl [HzS2]; · iexact HzS2
      isplitl [HzS3]; · iexact HzS3
      isplitl [HzV0]; · iexact HzV0
      isplitl [HzV1]; · iexact HzV1
      isplitl [HzV2] <;> iassumption
    isplitl [Hx]; · iexists _; iexact Hx
    isplitl [Hw]; · iexists _; iexact Hw
    iexact Hy
  isplitl [HO] <;> iassumption

end Run

end Cert.AllToAll

end
-- ==== Proof.Ghost.lean ====
/-
# Ghost: what the launch creates, and how it is dealt to the four devices

At launch every semaphore's cell is created at round 0, together with the tokens of all its duties. A device keeps the
positions on its own semaphores; a token goes to the device that pays the duty. The tokens of a duty are named by the
payer, so dealing them is exchanging the two devices in a double product.
-/
module

public import proofs.«01_k».proof.Proof.Body

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Products over the devices and over a device's semaphores -/

section Products
omit [FloatOps F]

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_devs (Φ : Dev nD → sProp 𝕄) : bigSep Finset.univ Φ = iprop(Φ 0 ∗ Φ 1 ∗ Φ 2 ∗ Φ 3) :=
  bigSep_univ_eq_bigSepL [0, 1, 2, 3] (by decide) (by decide) Φ
/-- The same product, begun at device `c`. -/
theorem bigSep_from (c : Dev nD) (Φ : Dev nD → sProp 𝕄) :
    bigSep Finset.univ Φ = iprop(Φ c ∗ Φ (nb c 1) ∗ Φ (nb c 2) ∗ Φ (nb c 3)) := by
  rw [bigSep_eq_bigSepL_of_eq [c, nb c 1, nb c 2, nb c 3] (devs_from c) (devs_from_nodup c)]
  rfl
/-- A product over a device's semaphores. -/
theorem bigSep_cix (c : Dev nD) (Φ : Cix → sProp 𝕄) :
    bigSep Finset.univ Φ
      = iprop((Φ (.inl 0) ∗ Φ (.inl 1) ∗ Φ (.inl 2) ∗ Φ (.inl 3) ∗ Φ (.inl 4) ∗ Φ (.inl 5))
        ∗ Φ (.inr c) ∗ Φ (.inr (nb c 1)) ∗ Φ (.inr (nb c 2)) ∗ Φ (.inr (nb c 3))) := by
  rw [bigSep_univ_sum, bigSep_fin6, bigSep_from c]
  rfl

/-- A persistent fact is there for every factor of a product. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

end Products

/-! ## The cells and the tokens -/

theorem csem_injective : Function.Injective (csem : Cix → SemLoc sig) := by decide

theorem kcell_injective : Function.Injective (kcell : Dev nD × Cix → GSem nD τ sig) := fun a b h =>
  Prod.ext (congrArg (fun g : GSem nD τ sig => g.1.1) h) (csem_injective (congrArg Prod.snd h))

def kcells : Finset (GSem nD τ sig) := Finset.univ.map ⟨kcell, kcell_injective⟩

/-- A duty of a device: of a peer at its barrier, of a peer at the receive semaphore for it, or one of its own five. -/
abbrev Tix : Type := (Dev nD ⊕ Dev nD) ⊕ Fin 5
/-- The semaphore a duty is at, and the device that names it. -/
abbrev tsem : Tix → SemLoc sig × Dev nD := fun
  | .inl (.inl s) => (.reg barS, s) | .inl (.inr s) => (.dma (recvS s), s)
  | .inr 0 => (.dma xS, 0) | .inr 1 => (.dma wS, 0) | .inr 2 => (.dma sendA, 0) | .inr 3 => (.dma sendB, 0) | .inr 4 => (.dma sendC, 0)
theorem tsem_injective : Function.Injective (tsem : Tix → SemLoc sig × Dev nD) := by decide

abbrev tokOf (ck : Dev nD × Tix) : GSem nD τ sig × ℕ × Dev nD := (((ck.1 : Thread nD τ), (tsem ck.2).1), 0, (tsem ck.2).2)
theorem tokOf_injective : Function.Injective (tokOf : Dev nD × Tix → GSem nD τ sig × ℕ × Dev nD) := fun a b h =>
  Prod.ext (congrArg (fun x : GSem nD τ sig × ℕ × Dev nD => x.1.1.1) h)
    (tsem_injective (congrArg (fun x : GSem nD τ sig × ℕ × Dev nD => (x.1.2, x.2.2)) h))
def ktoks : Finset (GSem nD τ sig × ℕ × Dev nD) := Finset.univ.map ⟨tokOf, tokOf_injective⟩

def u₀ : UU := (initOf (Pipeline.cells cfgs cellOf_inj) (Pipeline.launchToks cfgs cellOf_inj), initOf kcells ktoks)

/-- The tokens of the five duties a device pays on its own semaphores. -/
def ownToks (c : Dev nD) : sProp 𝕄 :=
  iprop(dutyTok ER (dmaCell c xS) 0 0 ∗ dutyTok ER (dmaCell c wS) 0 0
    ∗ dutyTok ER (dmaCell c sendA) 0 0 ∗ dutyTok ER (dmaCell c sendB) 0 0 ∗ dutyTok ER (dmaCell c sendC) 0 0)

/-- The tokens of the duties on device `c`'s semaphores, as created. -/
def toks (c : Dev nD) : sProp 𝕄 :=
  iprop(((bigSep Finset.univ fun s : Dev nD => dutyTok ER (barCell c) 0 s) ∗ (bigSep Finset.univ fun s : Dev nD => dutyTok ER (recvCell c s) 0 s))
    ∗ ownToks c)

/-- What device `c` is dealt at the start: its semaphores' cells, its positions on them, and their duties' tokens. -/
def G (c : Dev nD) : sProp 𝕄 :=
  iprop((bigSep Finset.univ fun k : Cix => roundState ER (rd m) (kcell (c, k)) 0)
    ∗ (bigSep Finset.univ fun k : Cix => iprop(atPos ER (kcell (c, k)) 0 ∅ 0 ∗ reached ER (kcell (c, k)) 0)) ∗ toks c)

/-- What it holds once the cells are shared and the tokens exchanged. -/
def G' (c : Dev nD) : sProp 𝕄 := iprop(∃ K, ghost m K c)

theorem toks_eq : bigSep ktoks (fun x => (dutyTok ER x.1 x.2.1 x.2.2 : sProp 𝕄)) = bigSep Finset.univ fun c : Dev nD => toks c := by
  unfold ktoks
  rw [bigSep_map, bigSep_univ_prod]
  refine bigSep_congr fun c _ => ?_
  rw [bigSep_univ_sum, bigSep_univ_sum, bigSep_fin5]
  rfl

theorem cells_eq (Φ : GSem nD τ sig → sProp 𝕄) :
    bigSep kcells Φ = bigSep Finset.univ fun c : Dev nD => bigSep Finset.univ fun k : Cix => Φ (kcell (c, k)) := by
  unfold kcells
  rw [bigSep_map, bigSep_univ_prod]
  rfl

/-- The creation. -/
theorem fund_cells : BI.own (ER (initOf kcells ktoks)) ⊢ (|==> bigSep Finset.univ (G m) : sProp 𝕄) := by
  iintro H
  imod (Rounds.fund ER (rd m) kcells ktoks) $$ H with ⟨Hst, Hr, Hat, Htok⟩
  imodintro
  ihave Hst := (Entails.of_eq (cells_eq fun g => roundState ER (rd m) g 0)) $$ Hst
  ihave Hat := (Entails.of_eq (cells_eq fun g => atPos ER g 0 ∅ 0)) $$ Hat
  ihave Hr := (Entails.of_eq (cells_eq fun g => reached ER g 0)) $$ Hr
  ihave Htok := (Entails.of_eq toks_eq) $$ Htok
  unfold G
  simp only [bigSep_sep']
  isplitl [Hst]; · iexact Hst
  isplitl [Hat Hr]
  · isplitl [Hat] <;> iassumption
  iexact Htok

/-! ## The semaphores at launch -/

/-- The kernel's own semaphores. -/
abbrev osem : Fin 9 → SemLoc sig := fun
  | 0 => .dma xS | 1 => .dma wS | 2 => .dma sendA | 3 => .dma sendB | 4 => .dma sendC
  | 5 => .dma (recvS 0) | 6 => .dma (recvS 1) | 7 => .dma (recvS 2) | 8 => .dma (recvS 3)

theorem ownSems0_eq (c : Dev nD) :
    (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7, 8] (by decide) (by decide)]
  unfold zeros
  rw [← bigSep_from c (fun s => (semVal (recvCell c s) 0 : sProp 𝕄)), bigSep_devs]
  rfl
theorem unscopedSems0_eq (c : Dev nD) : (unscopedSems0 c : sProp 𝕄) = semVal (barCell c) 0 := by
  unfold unscopedSems0
  rw [bigSep_eq_bigSepL_of_eq [SemLoc.reg barS] (by decide) (by decide)]
  rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) := by
  rw [ownSems0_eq, unscopedSems0_eq, bigSep_cix c]
  unfold zeros
  iintro ⟨⟨HX, HW, HA, HB, HC, HV⟩, Hb⟩
  isplitr [HV]
  · isplitl [Hb]; · iexact Hb
    isplitl [HX]; · iexact HX
    isplitl [HW]; · iexact HW
    isplitl [HA]; · iexact HA
    isplitl [HB]; · iexact HB
    iexact HC
  iexact HV

/-- A device's cells, each with its counter at zero, become invariants. -/
theorem share_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  have hinv : iprop((bigSep Finset.univ fun k : Cix => semVal (kcell (c, k)) 0) ∗ bigSep Finset.univ fun k : Cix => roundState ER (rd m) (kcell (c, k)) 0)
      ⊢ (|={Set.univ}=> bigSep Finset.univ fun k => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Hos, Hus, Hst, Hat, Htok⟩
  ihave Hv := (sems0 (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-! ## The exchange -/

/-- The tokens of the duties device `c` pays, its own two that do not exist as duties included. -/
def dealt (c : Dev nD) : sProp 𝕄 :=
  iprop(((bigSep Finset.univ fun s : Dev nD => dutyTok ER (barCell s) 0 c) ∗ (bigSep Finset.univ fun s : Dev nD => dutyTok ER (recvCell s c) 0 c))
    ∗ ownToks c)

theorem toks_dealt : (bigSep Finset.univ fun c : Dev nD => (toks c : sProp 𝕄)) = bigSep Finset.univ fun c : Dev nD => dealt c := by
  unfold toks dealt
  simp only [bigSep_sep']
  rw [bigSep_univ_comm fun c s : Dev nD => (dutyTok ER (barCell c) 0 s : sProp 𝕄),
    bigSep_univ_comm fun c s : Dev nD => (dutyTok ER (recvCell c s) 0 s : sProp 𝕄)]

theorem dealt_pay (c : Dev nD) : (dealt c : sProp 𝕄) ⊢ payToks c := by
  unfold dealt payToks ownToks
  rw [bigSep_from c, bigSep_from c]
  iintro ⟨⟨⟨-, HB⟩, -, HV⟩, HO⟩
  isplitl [HB]; · iexact HB
  isplitl [HV]; · iexact HV
  iexact HO

theorem positions_intro (c : Dev nD) : (bigSep Finset.univ fun k : Cix => (atPos ER (kcell (c, k)) 0 ∅ 0 : sProp 𝕄)) ⊢ positions c := by
  rw [bigSep_cix c]
  unfold positions
  iintro ⟨⟨Hb, HX, HW, HA, HB, HC⟩, HV⟩
  isplitl [Hb]; · iexact Hb
  isplitl [HX]; · iexact HX
  isplitl [HW]; · iexact HW
  isplitl [HA]; · iexact HA
  isplitl [HB]; · iexact HB
  isplitl [HC]; · iexact HC
  iexact HV

theorem ghost_intro (K : Dev nD × Cix → ℕ) (c : Dev nD) :
    iprop(records m K ∗ (bigSep Finset.univ fun k : Cix => atPos ER (kcell (c, k)) 0 ∅ 0) ∗ dealt c) ⊢ G' m c := by
  unfold G' ghost
  iintro ⟨#HR, Hat, Htok⟩
  iexists K
  isplitr; · iexact HR
  isplitl [Hat]
  · iapply (positions_intro c); iexact Hat
  iapply (dealt_pay c); iexact Htok

/-- The invariants shared with all, the tokens dealt to their payers. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  simp only [bigSep_sep']
  rw [← bigSep_univ_prod (fun ck : Dev nD × Cix => iprop(∃ κ : ℕ, cellInv ER (rd m) κ (kcell ck))),
    ← bigSep_univ_prod (fun ck : Dev nD × Cix => (reached ER (kcell ck) 0 : sProp 𝕄)), toks_dealt]
  iintro ⟨HI, ⟨Hat, #HR⟩, Htok⟩
  ihave HK := (BI.bigSep_exists_pi Finset.univ (fun (ck : Dev nD × Cix) (κ : ℕ) => (cellInv ER (rd m) κ (kcell ck) : sProp 𝕄))) $$ HI
  icases HK with ⟨%K, #HI⟩
  iapply (bigSep_beside (R := records m K) fun c _ => ghost_intro m K c)
  isplitr
  · unfold records
    isplitl; · iexact HI
    iexact HR
  rw [bigSep_sep']
  isplitl [Hat] <;> iassumption

/-- The step from the launch's semaphores to the shared cells, on all devices at once. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => share_cells m c).trans (bigSep_fupd _ _)).trans (BI.fupd_mono (regroup m))

end Cert.AllToAll

end
-- ==== Proof.Launch.lean ====
/-
# Launch: the run of the whole program on the four devices

From what the launch gives — the cells and tokens of `Ghost`, and the credit of what the peers owe — each device starts
its run of `Body`. The conclusion, `run_main`: every run terminates, each device's result is `gathered`, its operands
are as they were and every semaphore is at zero.
-/
module

public import proofs.«01_k».proof.Proof.Ghost
public import Idealize.ShloMosaic.Lib.Pipeline.ValueKit
public import Idealize.ShloMosaic.Lib.Pipeline.CollectiveSegs

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The credit at launch -/

section Credit
omit [FloatOps F]

theorem bar_iff {a b : Dev nD} : barCell a = barCell b ↔ a = b :=
  ⟨congrArg fun g : GSem nD τ sig => g.1.1, fun h => h ▸ rfl⟩
theorem recv_iff {a b s t : Dev nD} : recvCell a s = recvCell b t ↔ a = b ∧ s = t := by
  refine ⟨fun h => ⟨congrArg (fun g : GSem nD τ sig => g.1.1) h, ?_⟩, fun ⟨h, h'⟩ => h ▸ h' ▸ rfl⟩
  have : csem (.inr s) = csem (.inr t) := congrArg Prod.snd h
  exact Sum.inr_injective (csem_injective this)
theorem bar_ne_recv (a b s : Dev nD) : barCell a ≠ recvCell b s := fun h => by cases congrArg Prod.snd h

/-- What device `d` owes device `c`'s barrier: a unit unless it is `c`. -/
theorem owed_bar (d c : Dev nD) : O₀ d (barCell c) () = if d = c then 0 else 1 := by
  unfold O₀ O₁ O₂ O₃ O₄
  simp only [Pi.add_apply, Finsupp.add_apply, tallyAt_apply, bar_iff, bar_ne_recv, _root_.false_and, if_false, _root_.and_true]
  revert c d
  decide

/-- What device `d` owes device `c`'s receive semaphore for `s`: a tile if it is `s`, and not `c`. -/
theorem owed_recv (d c s : Dev nD) (h : s ≠ c) : O₀ d (recvCell c s) () = if d = s then NT else 0 := by
  have three : ∀ n : ℕ, (if c = nb d 3 ∧ s = d then n else 0) + (if c = nb d 1 ∧ s = d then n else 0) + (if c = nb d 2 ∧ s = d then n else 0)
      = if d = s then n else 0 := by
    intro n
    by_cases hd : d = s
    · subst hd
      have hk : (c = nb d 3 ∧ c ≠ nb d 1 ∧ c ≠ nb d 2) ∨ (c ≠ nb d 3 ∧ c = nb d 1 ∧ c ≠ nb d 2) ∨ (c ≠ nb d 3 ∧ c ≠ nb d 1 ∧ c = nb d 2) := by
        revert c d; decide
      rcases hk with ⟨h1, h2, h3⟩ | ⟨h1, h2, h3⟩ | ⟨h1, h2, h3⟩
      · rw [if_pos ⟨h1, rfl⟩, if_neg (fun h => h2 h.1), if_neg (fun h => h3 h.1), if_pos rfl, Nat.add_zero]
      · rw [if_neg (fun h => h1 h.1), if_pos ⟨h2, rfl⟩, if_neg (fun h => h3 h.1), if_pos rfl, Nat.zero_add, Nat.add_zero]
      · rw [if_neg (fun h => h1 h.1), if_neg (fun h => h2 h.1), if_pos ⟨h3, rfl⟩, if_pos rfl, Nat.add_zero, Nat.zero_add]
    · rw [if_neg (fun h => hd h.2.symm), if_neg (fun h => hd h.2.symm), if_neg (fun h => hd h.2.symm), if_neg hd]
  rw [← three NT]
  unfold O₀ O₁ O₂ O₃ O₄
  simp only [Pi.add_apply, Finsupp.add_apply, tallyAt_apply, recv_iff, (bar_ne_recv _ _ _).symm, _root_.false_and, if_false, _root_.and_true, Nat.add_zero]

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c
  decide

theorem launch_recv (c s : Dev nD) (h : s ≠ c) :
    tallyOn (recvCell c s) (launchCredit (Pipeline.owing O₀) 0 (recvCell c s)) = (tallyAt (recvCell c s) () NT : CellTallies nD τ sig Unit) := by
  unfold tallyAt
  refine congrArg _ (Finsupp.ext fun u => ?_)
  cases u
  rw [Pipeline.launchCredit_owing, Finsupp.single_eq_same, Finset.sum_congr rfl fun d _ => owed_recv d c s h,
    Finset.sum_ite_eq' Finset.univ s fun _ => NT, if_pos (Finset.mem_univ _)]

/-- The semaphores a device waits on for its peers. -/
def awaited (c : Dev nD) : List (SemLoc sig) := [.reg barS, .dma (recvS (nb c 1)), .dma (recvS (nb c 2)), .dma (recvS (nb c 3))]
theorem awaited_nodup (c : Dev nD) : (awaited c).Nodup := by revert c; decide

theorem credits_intro (c : Dev nD) : (Pipeline.launchCred O₀ c : sProp 𝕄) ⊢ credits c := by
  unfold Pipeline.launchCred
  refine Entails.trans (bigSep_subset (Finset.subset_univ (awaited c).toFinset)) (Entails.of_eq ?_)
  rw [bigSep_eq_bigSepL_of_eq (awaited c) rfl (awaited_nodup c)]
  unfold credits
  rw [← launch_bar c, ← launch_recv c _ (nb1_ne c), ← launch_recv c _ (nb2_ne c), ← launch_recv c _ (nb3_ne c)]
  rfl

end Credit

/-! ## The launch's conditions -/

theorem ownSemFacts : Pipeline.OwnSemFacts cfg0.spec osem := by decide

theorem share_eq (c : Dev nD) (w : Fin cfg0.W) : (dats m 0 c).share w = fullShare := by
  unfold Dat.share; split <;> rfl

/-- The body's run is what the launch asks of it. -/
theorem body_obligation (c : Dev nD) : BodyObligation (dats (F := F) m 0 c) (defs₀ (F := F)) 𝒱₀ () Set.univ := fun t => by
  rw [fin_N t, bigSep_W, bigSep_W]
  simp only [owns_whole_eq]
  show iprop(Φ₀ m c ∗ (dats m 0 c).owesAt () t₀.castSucc ∗ (∃ d, stg c cc0_stg0_0 ((dats m 0 c).before (0 : Fin 1) t₀ d)))
    ⊢ wp frame (wpE (defs₀ (F := F)) 𝒱₀ c none) Set.univ
      (cc0_body aM (Memref.isWhole_whole _) bM (Memref.isWhole_whole _) oM (Memref.isWhole_whole _) xM (Memref.isWhole_whole _)
        wM (Memref.isWhole_whole _) yM (Memref.isWhole_whole _) cc0_scratch3 cc0_scratch4 cc0_scratch5)
      (fun _ => iprop(Φ₁ m c ∗ (dats m 0 c).owesAt () t₀.succ ∗ stg c cc0_stg0_0 (gathered m c)))
  unfold Φ₀ start Dat.owesAt Pipeline.owesWithin
  rw [show (dats m 0 c).owed t₀.castSucc = O₀ c from rfl, show (dats m 0 c).owed t₀.succ = 0 from rfl]
  iintro ⟨⟨⟨⟨%K, Hg⟩, Hc, Hl, Ha⟩, Hon⟩, ⟨%W, -, HO⟩, ⟨%d, %f, -, Hf⟩⟩
  iapply (sound_body m K c fun _ => _)
  unfold bodyPre bodyPost owing
  isplitr []
  · isplitl [Hg Hc Hl Ha Hon]
    · isplitl [Hg]; · iexact Hg
      isplitl [Hc]; · iexact Hc
      isplitl [Hl]; · iexact Hl
      isplitl [Ha] <;> iassumption
    isplitl [HO]
    · iexists W; iexact HO
    iexists f; iexact Hf
  · iintro ⟨HΦ, ⟨%W', HO⟩, Hf⟩
    isplitl [HΦ]; · iexact HΦ
    isplitl [HO]
    · iexists W'
      isplitr; · ipureintro; exact fun _ _ => Or.inl trivial
      iexact HO
    iexists (gathered m c)
    isplitr; · ipureintro; rfl
    iexact Hf

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' operands
  iintro ⟨Ha, Hlev, Hcr, -, HG⟩
  ihave Hc := (credits_intro (F := F) c) $$ Hcr
  imodintro
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ onchip
  iintro ⟨Hs, -, Hr⟩
  isplitl [Hs] <;> iassumption

theorem phi1_exit (c : Dev nD) :
    (dats m 0 c).Φ (Fin.last cfg0.N) ⊢ iprop((unscopedSems0 c ∗ operands m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  exact Entails.of_eq rfl

theorem waits (c : Dev nD) : (levAts L lv : sProp 𝕄) ⊢ Pipeline.cellsWaits cfgs (dats m) () 0 c :=
  Pipeline.cellsWaits_intro cfgs (dats m) () 0 c fun w s t =>
    mayWait_low c _ (by fin_cases w; fin_cases s; decide) _ (by
      rcases t with ⟨_ | _, ht⟩
      · exact Or.inl rfl
      · exact Or.inr (Or.inr rfl))

/-! ## The run -/

/-- What is left of a device at the end, read against the memory. -/
theorem final_read (c : Dev nD) (s' : Phys nD τ sig (Elt F)) :
    iprop((unscopedSems0 c ∗ operands m c) ∗ emp ∗ SI s')
      ⊢ (|={Set.univ}=> iprop(⌜((s'.mem.mem ((c : Thread nD τ).loc main_arg0) = m ((c : Thread nD τ).loc main_arg0))
            ∧ s'.mem.mem ((c : Thread nD τ).loc main_arg1) = m ((c : Thread nD τ).loc main_arg1))
          ∧ ∀ sm : SemLoc sig, sm.isScoped .tc = false → s'.mem.sem ((c.tc : Thread nD τ), sm) = 0⌝ ∗ SI s') : sProp 𝕄) := by
  unfold operands
  iintro ⟨⟨Hu, Ha, Hb⟩, -, HSI⟩
  icombine HSI Ha gives %ha
  icombine HSI Hb gives %hb
  imod (Pipeline.unscopedSems0_read (X := unscopedSems0 c) (c := c) fupd_intro s') $$ [Hu HSI] with ⟨%hu, HSI⟩
  · isplitl [Hu] <;> iassumption
  imodintro
  isplitr
  · ipureintro
    exact ⟨⟨Buf.eq_of_forall_mem_univ ha, Buf.eq_of_forall_mem_univ hb⟩, hu⟩
  iexact HSI

/-- The result array is written once, whole. -/
theorem final_result (c : Dev nD) : (dats m 0 c).arrAt (0 : Fin 1) cfg0.N = gathered m c :=
  (dats m 0 c).arrAt_eq_of_after_last (0 : Fin 1) t₀ (by decide +kernel) _ fun j => rfl

set_option maxRecDepth 8000 in
/-- Every run terminates with each device's result gathered, its operands unchanged and every semaphore at zero. -/
theorem run_main (ρ : Dev nD → PrngReg) :
    θ_run defs (onTc (τ := τ) (main (F := F))) ⟨m, fun _ => 0, ρ⟩ (fun r =>
      (∀ c : Dev nD, r.2.mem ((c.tc : Thread nD τ).loc main_v1) = gathered m c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w; exact Nat.succ_pos _)
    (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ operands m c)) (Z := fun _ => iprop(emp))
    (hX := start_intro m ρ) (hin := phi0_intro m) (hout := phi1_exit m)
    (QY := fun c s => ((s.mem ((c : Thread nD τ).loc main_arg0) = m ((c : Thread nD τ).loc main_arg0))
            ∧ s.mem ((c : Thread nD τ).loc main_arg1) = m ((c : Thread nD τ).loc main_arg1))
          ∧ ∀ sm : SemLoc sig, sm.isScoped .tc = false → s.sem ((c.tc : Thread nD τ), sm) = 0)
    (hY := final_read m)
    (hQ := fun s h hs => ⟨fun c => ⟨((h c).1 (0 : Fin 1)).trans (final_result m c), (h c).2.2.1⟩, sem_eq_zero hs fun c => (h c).2.2.2⟩)

end Cert.AllToAll

end
-- ==== Proof.Value.lean ====
/-
# Value: the gathered tiles are the device's columns of the reference's result

Read at the exact values. Row `256 s + r`, column `l` of what device `c` gathers comes from device `s`: it is
`max (∑ k, x_s (r, k) · w (k, 256 c + l)) 0`, for `x_s` the rows of `x` which `s` holds. As `x_s (r, k)` is
`x (256 s + r, k)`, this is the entry of `max (x · w) 0` in that row and in column `256 c + l`: an entry of the block of
columns which the result's layout gives to device `c`.
-/
module

public import proofs.«01_k».proof.Proof.Launch
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.AllToAll

open Cert.KernelIdeal Cert.KernelIdeal.Gen
open Idealize.ShloMosaic
open Idealize.ShloMosaic.TcCoe
open Idealize.SL.Sem

/-! ## One entry of each side -/

/-- An entry of a tile: the row of `x` times the column of `w`, no less than zero. -/
theorem tile_entry (x : FVec Ideal S256x1024 .f32) (w : FVec Ideal S1024x256 .f32) (r l : Fin 256) :
    k0_pay5 (F := Ideal) x w (ValueIdx.ix2 r l) = max (∑ k : Fin 1024, x (ValueIdx.ix2 r k) * w (ValueIdx.ix2 k l)) (0 : EReal) := by
  show max (FloatOps.matmul (DotDims.plain 256 1024 256) none x w (constant S256x256 .f32 0x00000000#32) (ValueIdx.ix2 r l))
    (Ideal.ofBits .f32 0x00000000#32) = _
  rw [Ideal.matmul_plain_apply]
  show max (Ideal.ofBits .f32 0x00000000#32 + _) (Ideal.ofBits .f32 0x00000000#32) = _
  rw [Ideal.ofBits_zero_f32, zero_add]

/-- The reference's result, as a function of its two operands. -/
abbrev product (x w : FVec Ideal S1024x1024 .f32) : FVec Ideal S1024x1024 .bf16 :=
  truncf .bf16 (maximumf (Host.dotGeneral Cert.ReferenceIdeal.dot_S1024x1024_S1024x1024_S1024x1024_1_0_0_1_n_n none x w)
    (broadcastInDim Cert.ReferenceIdeal.S1024x1024 ![] Cert.ReferenceIdeal.Gen.facts.bcast_S_S1024x1024
      (constant Cert.ReferenceIdeal.S_ .f32 0x00000000#32))) Cert.ReferenceIdeal.Gen.facts.bitsLt_bf16_f32

/-- An entry of the reference's result. -/
theorem product_entry (x w : FVec Ideal S1024x1024 .f32) (r l : Fin 1024) :
    product x w (ValueIdx.ix2 r l) = max (∑ k : Fin 1024, x (ValueIdx.ix2 r k) * w (ValueIdx.ix2 k l)) (0 : EReal) := by
  show max (Host.dotGeneral (DotDims.plain 1024 1024 1024) none x w (ValueIdx.ix2 r l)) (Ideal.ofBits .f32 0x00000000#32) = _
  rw [Ideal.ofBits_zero_f32, StackMember.dotGeneral_plain_apply]

/-! ## The columns of `w` and the rows of `x` -/

variable (m : (ℓ : Loc nD τ sig) → Buf (Elt Ideal) ℓ)

/-- The columns of `w` that device `c` multiplies for device `p` begin at column `256 p`. -/
theorem wCols_entry (c p : Dev nD) (k : Fin 1024) (l : Fin 256) (l' : Fin 1024) (hl : l'.val = 256 * p.val + l.val) :
    wCols m c p (ValueIdx.ix2 k l) = wOf m c (ValueIdx.ix2 k l') := by
  show wOf m c _ = _
  refine congrArg (wOf m c) ?_
  have e := k0_off4_eq p
  refine Shape.idx_ext₂ ?_ ?_
  · show k0_off4 p 0 + 1 * k.val = k.val
    rw [e]; show 0 + 1 * k.val = k.val; omega
  · show k0_off4 p 1 + 1 * l.val = l'.val
    rw [e, hl]; show 256 * p.val + 1 * l.val = _; omega

/-- Block `s` of the rows of `x`, entry by entry. -/
theorem rows_entry (X : FVec Ideal S1024x1024 .f32) (s : Fin 4) (r : Fin 256) (k r' : Fin 1024) (hr : r'.val = 256 * s.val + r.val) :
    (Layout.block ⟨2, ![256, 1024]⟩ ⟨2, ![1024, 1024]⟩ 0 4 s X : FVec Ideal S256x1024 .f32) (ValueIdx.ix2 r k) = X (ValueIdx.ix2 r' k) := by
  show X _ = X _
  refine congrArg X (Shape.idx_ext₂ ?_ ?_)
  · show s.val * 256 + r.val = r'.val
    omega
  · rfl

/-! ## The whole result -/

/-- What device `c` gathers is its block of columns of the reference's result. -/
theorem gathered_eq (X W : FVec Ideal S1024x1024 .f32)
    (hx : ∀ c, xOf m c = Layout.block ⟨2, ![256, 1024]⟩ ⟨2, ![1024, 1024]⟩ 0 4 c X) (hw : ∀ c, wOf m c = W) (c : Dev nD) :
    gathered m c = (Layout.block ⟨2, ![1024, 256]⟩ ⟨2, ![1024, 1024]⟩ 1 4 c (product X W) : FVec Ideal S1024x256 .bf16) := by
  funext (i : S1024x256.Idx)
  obtain ⟨a, l, rfl⟩ : ∃ (a : Fin 1024) (l : Fin 256), i = ValueIdx.ix2 a l := ⟨i 0, i 1, Shape.idx_ext₂ rfl rfl⟩
  have hc : c.val < 4 := c.isLt
  have ha : a.val < 1024 := a.isLt
  have hl : l.val < 256 := l.isLt
  have right : (Layout.block ⟨2, ![1024, 256]⟩ ⟨2, ![1024, 1024]⟩ 1 4 c (product X W) : FVec Ideal S1024x256 .bf16) (ValueIdx.ix2 a l)
      = product X W (ValueIdx.ix2 a ⟨256 * c.val + l.val, by omega⟩) := by
    refine congrArg (product X W) (Shape.idx_ext₂ rfl ?_)
    show c.val * 256 + l.val = 256 * c.val + l.val
    omega
  have left : gathered m c (ValueIdx.ix2 a l)
      = tile m ⟨a.val / 256, Nat.div_lt_of_lt_mul ha⟩ c (ValueIdx.ix2 ⟨a.val % 256, Nat.mod_lt _ (by decide)⟩ l) :=
    congrArg (tile m ⟨a.val / 256, Nat.div_lt_of_lt_mul ha⟩ c) (Shape.idx_ext₂ rfl rfl)
  rw [right, left, product_entry]
  refine (tile_entry _ _ _ _).trans (congrArg (max · (0 : EReal)) (Finset.sum_congr rfl fun k _ => ?_))
  rw [wCols_entry m _ c k l ⟨256 * c.val + l.val, by omega⟩ rfl, hw, hx,
    rows_entry X _ _ k a (by show a.val = 256 * (a.val / 256) + a.val % 256; omega)]

end Cert.AllToAll

end
-- ==== Proof.lean ====
/-
# The certificate of the all-to-all fused product

Five claims. The kernel as compiled, its idealization and the reference each run to the end with their operands
unchanged and every semaphore at zero; the idealization changes no operation; and on the exact values each device's
result is its block of the columns of the reference's result.

The kernel's two claims and its side of the value claim are the one run of `Proof/Launch.lean`, at the machine's floats
and at the exact values; the value itself is `Proof/Value.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Init

@[expose] public section

noncomputable section

namespace Cert.Proof

open Idealize.ShloMosaic Idealize.SL.Sem Cert.AllToAll

/-- The kernel, over any floats, ends with its operands unchanged and its semaphores at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (run_main m ρ)

/-- The compiled kernel's body is the idealized one's, its label taken apart. -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig)) ?_
  funext l a
  match l, a with
  | 0, (t, s) => rfl

/-- So the two programs have one table of bodies. -/
theorem defs_eq : Cert.Kernel.defs (F := Bits) = Cert.KernelIdeal.defs (F := Bits) :=
  congrArg (Pipeline.defs (Cert.Kernel.pcfgs (F := Bits))) bodies_eq

/-- The kernel as compiled, at the machine's floats: its text is that of the idealized program. -/
theorem frame_kernel : Cert.quiescent_Kernel := by
  intro m ρ _
  rw [defs_eq]
  exact frame_any (F := Bits) m ρ

/-- Its idealization, at the exact values. -/
theorem frame_kernelIdeal : Cert.quiescent_KernelIdeal := fun m ρ _ => frame_any (F := Ideal) m ρ

/-- The reference, which has no semaphores, ends with its operands unchanged too. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each device's result is its block of columns of what the reference computes. -/
theorem value : Cert.algebraic_KernelIdeal_ReferenceIdeal := fun m ρ m' ρ' _ args =>
  ⟨_,
    (θ_run Cert.KernelIdeal.defs _ _).mono
      (fun _ h c => ⟨(h.1 c).1.trans (gathered_eq m _ _ (fun d => (args d).1) (fun d => (args d).2) c), (h.1 c).2⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
